-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_d" .f32 0x39924925#32 ((1 / 3584 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_v39) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S12x4096x3584 : Shape := ⟨3, ![12, 4096, 3584]⟩
abbrev S3584 : Shape := ⟨1, ![3584]⟩
abbrev S12x4096 : Shape := ⟨2, ![12, 4096]⟩
abbrev S12x4096x1 : Shape := ⟨3, ![12, 4096, 1]⟩
abbrev S1x1x3584 : Shape := ⟨3, ![1, 1, 3584]⟩
abbrev S_ : Shape := ⟨0, ![]⟩

class Facts : Prop where
  bitsLt_bf16_f32 : FTy.bits .bf16 < FTy.bits .f32
  bcast_S12x4096_S12x4096x1_0_1 : S12x4096.BroadcastsInDim S12x4096x1 (![0, 1] : Fin 2 → Fin S12x4096x1.rank)
  bcast_S12x4096x1_S12x4096x3584_0_1_2 : S12x4096x1.BroadcastsInDim S12x4096x3584 (![0, 1, 2] : Fin 3 → Fin S12x4096x3584.rank)
  bcast_S3584_S1x1x3584_2 : S3584.BroadcastsInDim S1x1x3584 (![2] : Fin 1 → Fin S1x1x3584.rank)
  bcast_S1x1x3584_S12x4096x3584_0_1_2 : S1x1x3584.BroadcastsInDim S12x4096x3584 (![0, 1, 2] : Fin 3 → Fin S12x4096x3584.rank)
  reducesTo_S12x4096x3584_S12x4096_d2 : S12x4096x3584.ReducesTo [2] S12x4096
  h_S_ : 0 < S_.numel
  bcast_S_S12x4096x1 : S_.BroadcastsInDim S12x4096x1 (![] : Fin 0 → Fin S12x4096x1.rank)
  reducesTo_S12x4096x3584_S3584_d0_1 : S12x4096x3584.ReducesTo [0, 1] S3584
  bcast_S_S12x4096x3584 : S_.BroadcastsInDim S12x4096x3584 (![] : Fin 0 → Fin S12x4096x3584.rank)

variable [Facts]

def fn_part1 {F : FTy → Type} [FloatOps F] (main_v17 : FVec F S12x4096x3584 .f32) (main_v20 : FVec F S12x4096x3584 .f32) : IVec S12x4096x3584 1 :=
  let main_v21 : FVec F S12x4096x3584 .f32 := addf main_v17 main_v20
  let main_v22 : FVec F S12x4096x3584 .f32 := Host.absf main_v21
  let main_cst_2 : FVec F S_ .f32 := constant S_ .f32 0x7F7FFFFF#32
  let main_v23 : FVec F S12x4096x3584 .f32 := broadcastInDim S12x4096x3584 ![] bcast_S_S12x4096x3584 main_cst_2
  let main_v24 : IVec S12x4096x3584 1 := cmpf .ole main_v22 main_v23
  main_v24

def fn {F : FTy → Type} [FloatOps F] (main_arg0 : FVec F S12x4096x3584 .bf16) (main_arg1 : FVec F S12x4096x3584 .bf16) (main_arg2 : FVec F S3584 .f32) (main_arg3 : FVec F S12x4096 .f32) (main_arg4 : FVec F S12x4096x3584 .bf16) : IVec S12x4096x3584 1 :=
  let main_v0 : FVec F S12x4096x3584 .f32 := (extf .f32 · bitsLt_bf16_f32) main_arg0
  let main_v1 : FVec F S12x4096x3584 .f32 := (extf .f32 · bitsLt_bf16_f32) main_arg1
  let main_v2 : FVec F S12x4096x1 .f32 := broadcastInDim S12x4096x1 ![0, 1] bcast_S12x4096_S12x4096x1_0_1 main_arg3
  let main_v3 : FVec F S12x4096x3584 .f32 := broadcastInDim S12x4096x3584 ![0, 1, 2] bcast_S12x4096x1_S12x4096x3584_0_1_2 main_v2
  let main_v4 : FVec F S12x4096x3584 .f32 := mulf main_v0 main_v3
  let main_v5 : FVec F S1x1x3584 .f32 := broadcastInDim S1x1x3584 ![2] bcast_S3584_S1x1x3584_2 main_arg2
  let main_v6 : FVec F S12x4096x3584 .f32 := broadcastInDim S12x4096x3584 ![0, 1, 2] bcast_S1x1x3584_S12x4096x3584_0_1_2 main_v5
  let main_v7 : FVec F S12x4096x3584 .f32 := mulf main_v1 main_v6
  let main_v8 : FVec F S12x4096x3584 .f32 := mulf main_v7 main_v4
  let main_cst : FVec F S_ .f32 := constant S_ .f32 0x00000000#32
  let main_v9 : FVec F S12x4096 .f32 := (fun x v => Host.reduceAdd x v reducesTo_S12x4096x3584_S12x4096_d2 h_S_) main_v8 main_cst
  let main_v10 : FVec F S12x4096x1 .f32 := broadcastInDim S12x4096x1 ![0, 1] bcast_S12x4096_S12x4096x1_0_1 main_v9
  let main_cst_0 : FVec F S_ .f32 := constant S_ .f32 0x45600000#32
  let main_v11 : FVec F S12x4096x1 .f32 := broadcastInDim S12x4096x1 ![] bcast_S_S12x4096x1 main_cst_0
  let main_v12 : FVec F S12x4096x1 .f32 := Host.divf main_v10 main_v11
  let main_v13 : FVec F S12x4096x3584 .f32 := broadcastInDim S12x4096x3584 ![0, 1, 2] bcast_S12x4096x1_S12x4096x3584_0_1_2 main_v12
  let main_v14 : FVec F S12x4096x3584 .f32 := mulf main_v4 main_v13
  let main_v15 : FVec F S12x4096x3584 .f32 := subf main_v7 main_v14
  let main_v16 : FVec F S12x4096x3584 .f32 := broadcastInDim S12x4096x3584 ![0, 1, 2] bcast_S12x4096x1_S12x4096x3584_0_1_2 main_v2
  let main_v17 : FVec F S12x4096x3584 .f32 := mulf main_v16 main_v15
  let main_v18 : FVec F S12x4096x3584 .f32 := mulf main_v1 main_v4
  let main_cst_1 : FVec F S_ .f32 := constant S_ .f32 0x00000000#32
  let main_v19 : FVec F S3584 .f32 := (fun x v => Host.reduceAdd x v reducesTo_S12x4096x3584_S3584_d0_1 h_S_) main_v18 main_cst_1
  let main_v20 : FVec F S12x4096x3584 .f32 := (extf .f32 · bitsLt_bf16_f32) main_arg4
  fn_part1 (F := F) main_v17 main_v20
-- ==== Kernel.lean ====
abbrev S12x4096x3584 : Shape := ⟨3, ![12, 4096, 3584]⟩
abbrev S3584 : Shape := ⟨1, ![3584]⟩
abbrev S12x4096 : Shape := ⟨2, ![12, 4096]⟩
abbrev S1x3584 : Shape := ⟨2, ![1, 3584]⟩
abbrev S1x256x3584 : Shape := ⟨3, ![1, 256, 3584]⟩
abbrev S8x3584 : Shape := ⟨2, ![8, 3584]⟩
abbrev S384x128 : Shape := ⟨2, ![384, 128]⟩
abbrev S256x128 : Shape := ⟨2, ![256, 128]⟩
abbrev S1x32x3584 : Shape := ⟨3, ![1, 32, 3584]⟩
abbrev S1x32x128 : Shape := ⟨3, ![1, 32, 128]⟩
abbrev S1x128 : Shape := ⟨2, ![1, 128]⟩
abbrev S128x128 : Shape := ⟨2, ![128, 128]⟩
abbrev S32x128 : Shape := ⟨2, ![32, 128]⟩
abbrev S32x256 : Shape := ⟨2, ![32, 256]⟩
abbrev S1x32x256 : Shape := ⟨3, ![1, 32, 256]⟩
abbrev S1x256 : Shape := ⟨2, ![1, 256]⟩
abbrev S8x256 : Shape := ⟨2, ![8, 256]⟩
abbrev S4x8x256 : Shape := ⟨3, ![4, 8, 256]⟩
abbrev S32 : Shape := ⟨1, ![32]⟩
abbrev S32x1 : Shape := ⟨2, ![32, 1]⟩

abbrev nBuf : Space → Nat
  | .hbm => 10
  | .vmem => 24
  | .smem => 0
  | _ => 0

abbrev bufTy : (tb : Table) → Fin (tcTables nBuf tb) → BufTy
  | .hbm, ⟨0, _⟩ => ⟨S12x4096x3584, .bf16⟩
  | .hbm, ⟨1, _⟩ => ⟨S12x4096x3584, .bf16⟩
  | .hbm, ⟨2, _⟩ => ⟨S3584, .f32⟩
  | .hbm, ⟨3, _⟩ => ⟨S12x4096, .f32⟩
  | .hbm, ⟨4, _⟩ => ⟨S12x4096x3584, .bf16⟩
  | .hbm, ⟨5, _⟩ => ⟨S1x3584, .f32⟩
  | .hbm, ⟨6, _⟩ => ⟨S1x3584, .f32⟩
  | .hbm, ⟨7, _⟩ => ⟨S12x4096x3584, .bf16⟩
  | .hbm, ⟨8, _⟩ => ⟨S12x4096x3584, .fp8e5m2⟩
  | .hbm, ⟨9, _⟩ => ⟨S12x4096, .f32⟩
  | .local _ .vmem, ⟨0, _⟩ => ⟨S1x256x3584, .bf16⟩
  | .local _ .vmem, ⟨1, _⟩ => ⟨S1x256x3584, .bf16⟩
  | .local _ .vmem, ⟨2, _⟩ => ⟨S1x256x3584, .bf16⟩
  | .local _ .vmem, ⟨3, _⟩ => ⟨S1x256x3584, .bf16⟩
  | .local _ .vmem, ⟨4, _⟩ => ⟨S1x3584, .f32⟩
  | .local _ .vmem, ⟨5, _⟩ => ⟨S12x4096, .f32⟩
  | .local _ .vmem, ⟨6, _⟩ => ⟨S1x256x3584, .bf16⟩
  | .local _ .vmem, ⟨7, _⟩ => ⟨S1x256x3584, .bf16⟩
  | .local _ .vmem, ⟨8, _⟩ => ⟨S1x3584, .f32⟩
  | .local _ .vmem, ⟨9, _⟩ => ⟨S1x256x3584, .bf16⟩
  | .local _ .vmem, ⟨10, _⟩ => ⟨S1x256x3584, .bf16⟩
  | .local _ .vmem, ⟨11, _⟩ => ⟨S1x256x3584, .fp8e5m2⟩
  | .local _ .vmem, ⟨12, _⟩ => ⟨S1x256x3584, .fp8e5m2⟩
  | .local _ .vmem, ⟨13, _⟩ => ⟨S12x4096, .f32⟩
  | .local _ .vmem, ⟨14, _⟩ => ⟨S8x3584, .f32⟩
  | .local _ .vmem, ⟨15, _⟩ => ⟨S384x128, .f32⟩
  | .local _ .vmem, ⟨16, _⟩ => ⟨S384x128, .f32⟩
  | .local _ .vmem, ⟨17, _⟩ => ⟨S256x128, .f32⟩
  | .local _ .vmem, ⟨18, _⟩ => ⟨S256x128, .f32⟩
  | .local _ .vmem, ⟨19, _⟩ => ⟨S1x32x3584, .f32⟩
  | .local _ .vmem, ⟨20, _⟩ => ⟨S1x32x3584, .f32⟩
  | .local _ .vmem, ⟨21, _⟩ => ⟨S1x32x3584, .f32⟩
  | .local _ .vmem, ⟨22, _⟩ => ⟨S1x32x128, .f32⟩
  | .local _ .vmem, ⟨23, _⟩ => ⟨S1x32x128, .f32⟩
  | _, _ => ⟨S12x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨2, ![12, 16], ![false, false]⟩

def k0_off1 (i : grid0.Coords) (c0_i32_2 : BitVec 32) : Fin 2 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let c2_i32 : BitVec 32 := 2#32
  let v1 : BitVec 32 := Scalar.muli arg1 c2_i32
  let v2 : BitVec 32 := Scalar.addi v0 v1
  let v8 : BitVec 32 := Scalar.addi v2 c0_i32_2
  let v9 : Index := Scalar.indexCast v8
  let c0 : Index := 0#32
  ![v9.toNat, 0]
@[reducible] def k0_t1_loop : Scf.Loop 32 :=
  let c0_i32_7 : BitVec 32 := 0#32
  let c8_i32 : BitVec 32 := 8#32
  let v26 : BitVec 32 := Scalar.addi c0_i32_7 c8_i32
  let c1_i32_8 : BitVec 32 := 1#32
  ⟨c0_i32_7, v26, c1_i32_8⟩
def k0_mult1 (k0_t1 : Fin k0_t1_loop.trips) : BitVec 32 :=
  let c0_i32_20 : BitVec 32 := 0#32
  let c0_i32_7 : BitVec 32 := 0#32
  let c1_i32_8 : BitVec 32 := 1#32
  let arg21 : BitVec 32 := Scf.iv c0_i32_7 c1_i32_8 k0_t1
  let c1_i32_19 : BitVec 32 := 1#32
  let v48 : BitVec 32 := Scalar.muli arg21 c1_i32_19
  let v49 : BitVec 32 := Scalar.addi c0_i32_20 v48
  let c32_i32_21 : BitVec 32 := 32#32
  let v50 : BitVec 32 := Scalar.muli v49 c32_i32_21
  v50
def k0_off2 (k0_t1 : Fin k0_t1_loop.trips) : Fin 2 → Nat :=
  let c0_i32_20 : BitVec 32 := 0#32
  let c0_i32_7 : BitVec 32 := 0#32
  let c1_i32_8 : BitVec 32 := 1#32
  let arg21 : BitVec 32 := Scf.iv c0_i32_7 c1_i32_8 k0_t1
  let c1_i32_19 : BitVec 32 := 1#32
  let v48 : BitVec 32 := Scalar.muli arg21 c1_i32_19
  let v49 : BitVec 32 := Scalar.addi c0_i32_20 v48
  let c32_i32_21 : BitVec 32 := 32#32
  let v50 : BitVec 32 := Scalar.muli v49 c32_i32_21
  let v51 : BitVec 32 := v50
  let v52 : Index := Scalar.indexCast v51
  let c0_22 : Index := 0#32
  ![v52.toNat, 0]
def k0_off3 (k0_t1 : Fin k0_t1_loop.trips) : Fin 3 → Nat :=
  let c0_23 : Index := 0#32
  let c0_i32_20 : BitVec 32 := 0#32
  let c0_i32_7 : BitVec 32 := 0#32
  let c1_i32_8 : BitVec 32 := 1#32
  let arg21 : BitVec 32 := Scf.iv c0_i32_7 c1_i32_8 k0_t1
  let c1_i32_19 : BitVec 32 := 1#32
  let v48 : BitVec 32 := Scalar.muli arg21 c1_i32_19
  let v49 : BitVec 32 := Scalar.addi c0_i32_20 v48
  let c32_i32_21 : BitVec 32 := 32#32
  let v50 : BitVec 32 := Scalar.muli v49 c32_i32_21
  let v51 : BitVec 32 := v50
  let v56 : Index := Scalar.indexCast v51
  let c0_24 : Index := 0#32
  ![0, v56.toNat, 0]
def k0_off4 (k0_t1 : Fin k0_t1_loop.trips) : Fin 3 → Nat :=
  let c0_42 : Index := 0#32
  let c0_i32_20 : BitVec 32 := 0#32
  let c0_i32_7 : BitVec 32 := 0#32
  let c1_i32_8 : BitVec 32 := 1#32
  let arg21 : BitVec 32 := Scf.iv c0_i32_7 c1_i32_8 k0_t1
  let c1_i32_19 : BitVec 32 := 1#32
  let v48 : BitVec 32 := Scalar.muli arg21 c1_i32_19
  let v49 : BitVec 32 := Scalar.addi c0_i32_20 v48
  let c32_i32_21 : BitVec 32 := 32#32
  let v50 : BitVec 32 := Scalar.muli v49 c32_i32_21
  let v51 : BitVec 32 := v50
  let v93 : Index := Scalar.indexCast v51
  let c256 : Index := 256#32
  ![0, v93.toNat, 256]
def k0_off5 (k0_t1 : Fin k0_t1_loop.trips) : Fin 3 → Nat :=
  let c0_60 : Index := 0#32
  let c0_i32_20 : BitVec 32 := 0#32
  let c0_i32_7 : BitVec 32 := 0#32
  let c1_i32_8 : BitVec 32 := 1#32
  let arg21 : BitVec 32 := Scf.iv c0_i32_7 c1_i32_8 k0_t1
  let c1_i32_19 : BitVec 32 := 1#32
  let v48 : BitVec 32 := Scalar.muli arg21 c1_i32_19
  let v49 : BitVec 32 := Scalar.addi c0_i32_20 v48
  let c32_i32_21 : BitVec 32 := 32#32
  let v50 : BitVec 32 := Scalar.muli v49 c32_i32_21
  let v51 : BitVec 32 := v50
  let v130 : Index := Scalar.indexCast v51
  let c512 : Index := 512#32
  ![0, v130.toNat, 512]
def k0_off6 (k0_t1 : Fin k0_t1_loop.trips) : Fin 3 → Nat :=
  let c0_78 : Index := 0#32
  let c0_i32_20 : BitVec 32 := 0#32
  let c0_i32_7 : BitVec 32 := 0#32
  let c1_i32_8 : BitVec 32 := 1#32
  let arg21 : BitVec 32 := Scf.iv c0_i32_7 c1_i32_8 k0_t1
  let c1_i32_19 : BitVec 32 := 1#32
  let v48 : BitVec 32 := Scalar.muli arg21 c1_i32_19
  let v49 : BitVec 32 := Scalar.addi c0_i32_20 v48
  let c32_i32_21 : BitVec 32 := 32#32
  let v50 : BitVec 32 := Scalar.muli v49 c32_i32_21
  let v51 : BitVec 32 := v50
  let v167 : Index := Scalar.indexCast v51
  let c768 : Index := 768#32
  ![0, v167.toNat, 768]
def k0_off7 (k0_t1 : Fin k0_t1_loop.trips) : Fin 3 → Nat :=
  let c0_96 : Index := 0#32
  let c0_i32_20 : BitVec 32 := 0#32
  let c0_i32_7 : BitVec 32 := 0#32
  let c1_i32_8 : BitVec 32 := 1#32
  let arg21 : BitVec 32 := Scf.iv c0_i32_7 c1_i32_8 k0_t1
  let c1_i32_19 : BitVec 32 := 1#32
  let v48 : BitVec 32 := Scalar.muli arg21 c1_i32_19
  let v49 : BitVec 32 := Scalar.addi c0_i32_20 v48
  let c32_i32_21 : BitVec 32 := 32#32
  let v50 : BitVec 32 := Scalar.muli v49 c32_i32_21
  let v51 : BitVec 32 := v50
  let v204 : Index := Scalar.indexCast v51
  let c1024 : Index := 1024#32
  ![0, v204.toNat, 1024]
def k0_off8 (k0_t1 : Fin k0_t1_loop.trips) : Fin 3 → Nat :=
  let c0_114 : Index := 0#32
  let c0_i32_20 : BitVec 32 := 0#32
  let c0_i32_7 : BitVec 32 := 0#32
  let c1_i32_8 : BitVec 32 := 1#32
  let arg21 : BitVec 32 := Scf.iv c0_i32_7 c1_i32_8 k0_t1
  let c1_i32_19 : BitVec 32 := 1#32
  let v48 : BitVec 32 := Scalar.muli arg21 c1_i32_19
  let v49 : BitVec 32 := Scalar.addi c0_i32_20 v48
  let c32_i32_21 : BitVec 32 := 32#32
  let v50 : BitVec 32 := Scalar.muli v49 c32_i32_21
  let v51 : BitVec 32 := v50
  let v241 : Index := Scalar.indexCast v51
  let c1280 : Index := 1280#32
  ![0, v241.toNat, 1280]
def k0_off9 (k0_t1 : Fin k0_t1_loop.trips) : Fin 3 → Nat :=
  let c0_132 : Index := 0#32
  let c0_i32_20 : BitVec 32 := 0#32
  let c0_i32_7 : BitVec 32 := 0#32
  let c1_i32_8 : BitVec 32 := 1#32
  let arg21 : BitVec 32 := Scf.iv c0_i32_7 c1_i32_8 k0_t1
  let c1_i32_19 : BitVec 32 := 1#32
  let v48 : BitVec 32 := Scalar.muli arg21 c1_i32_19
  let v49 : BitVec 32 := Scalar.addi c0_i32_20 v48
  let c32_i32_21 : BitVec 32 := 32#32
  let v50 : BitVec 32 := Scalar.muli v49 c32_i32_21
  let v51 : BitVec 32 := v50
  let v278 : Index := Scalar.indexCast v51
  let c1536 : Index := 1536#32
  ![0, v278.toNat, 1536]
def k0_off10 (k0_t1 : Fin k0_t1_loop.trips) : Fin 3 → Nat :=
  let c0_150 : Index := 0#32
  let c0_i32_20 : BitVec 32 := 0#32
  let c0_i32_7 : BitVec 32 := 0#32
  let c1_i32_8 : BitVec 32 := 1#32
  let arg21 : BitVec 32 := Scf.iv c0_i32_7 c1_i32_8 k0_t1
  let c1_i32_19 : BitVec 32 := 1#32
  let v48 : BitVec 32 := Scalar.muli arg21 c1_i32_19
  let v49 : BitVec 32 := Scalar.addi c0_i32_20 v48
  let c32_i32_21 : BitVec 32 := 32#32
  let v50 : BitVec 32 := Scalar.muli v49 c32_i32_21
  let v51 : BitVec 32 := v50
  let v315 : Index := Scalar.indexCast v51
  let c1792 : Index := 1792#32
  ![0, v315.toNat, 1792]
def k0_off11 (k0_t1 : Fin k0_t1_loop.trips) : Fin 3 → Nat :=
  let c0_168 : Index := 0#32
  let c0_i32_20 : BitVec 32 := 0#32
  let c0_i32_7 : BitVec 32 := 0#32
  let c1_i32_8 : BitVec 32 := 1#32
  let arg21 : BitVec 32 := Scf.iv c0_i32_7 c1_i32_8 k0_t1
  let c1_i32_19 : BitVec 32 := 1#32
  let v48 : BitVec 32 := Scalar.muli arg21 c1_i32_19
  let v49 : BitVec 32 := Scalar.addi c0_i32_20 v48
  let c32_i32_21 : BitVec 32 := 32#32
  let v50 : BitVec 32 := Scalar.muli v49 c32_i32_21
  let v51 : BitVec 32 := v50
  let v352 : Index := Scalar.indexCast v51
  let c2048 : Index := 2048#32
  ![0, v352.toNat, 2048]
def k0_off12 (k0_t1 : Fin k0_t1_loop.trips) : Fin 3 → Nat :=
  let c0_186 : Index := 0#32
  let c0_i32_20 : BitVec 32 := 0#32
  let c0_i32_7 : BitVec 32 := 0#32
  let c1_i32_8 : BitVec 32 := 1#32
  let arg21 : BitVec 32 := Scf.iv c0_i32_7 c1_i32_8 k0_t1
  let c1_i32_19 : BitVec 32 := 1#32
  let v48 : BitVec 32 := Scalar.muli arg21 c1_i32_19
  let v49 : BitVec 32 := Scalar.addi c0_i32_20 v48
  let c32_i32_21 : BitVec 32 := 32#32
  let v50 : BitVec 32 := Scalar.muli v49 c32_i32_21
  let v51 : BitVec 32 := v50
  let v389 : Index := Scalar.indexCast v51
  let c2304 : Index := 2304#32
  ![0, v389.toNat, 2304]
def k0_off13 (k0_t1 : Fin k0_t1_loop.trips) : Fin 3 → Nat :=
  let c0_204 : Index := 0#32
  let c0_i32_20 : BitVec 32 := 0#32
  let c0_i32_7 : BitVec 32 := 0#32
  let c1_i32_8 : BitVec 32 := 1#32
  let arg21 : BitVec 32 := Scf.iv c0_i32_7 c1_i32_8 k0_t1
  let c1_i32_19 : BitVec 32 := 1#32
  let v48 : BitVec 32 := Scalar.muli arg21 c1_i32_19
  let v49 : BitVec 32 := Scalar.addi c0_i32_20 v48
  let c32_i32_21 : BitVec 32 := 32#32
  let v50 : BitVec 32 := Scalar.muli v49 c32_i32_21
  let v51 : BitVec 32 := v50
  let v426 : Index := Scalar.indexCast v51
  let c2560 : Index := 2560#32
  ![0, v426.toNat, 2560]
def k0_off14 (k0_t1 : Fin k0_t1_loop.trips) : Fin 3 → Nat :=
  let c0_222 : Index := 0#32
  let c0_i32_20 : BitVec 32 := 0#32
  let c0_i32_7 : BitVec 32 := 0#32
  let c1_i32_8 : BitVec 32 := 1#32
  let arg21 : BitVec 32 := Scf.iv c0_i32_7 c1_i32_8 k0_t1
  let c1_i32_19 : BitVec 32 := 1#32
  let v48 : BitVec 32 := Scalar.muli arg21 c1_i32_19
  let v49 : BitVec 32 := Scalar.addi c0_i32_20 v48
  let c32_i32_21 : BitVec 32 := 32#32
  let v50 : BitVec 32 := Scalar.muli v49 c32_i32_21
  let v51 : BitVec 32 := v50
  let v463 : Index := Scalar.indexCast v51
  let c2816 : Index := 2816#32
  ![0, v463.toNat, 2816]
def k0_off15 (k0_t1 : Fin k0_t1_loop.trips) : Fin 3 → Nat :=
  let c0_240 : Index := 0#32
  let c0_i32_20 : BitVec 32 := 0#32
  let c0_i32_7 : BitVec 32 := 0#32
  let c1_i32_8 : BitVec 32 := 1#32
  let arg21 : BitVec 32 := Scf.iv c0_i32_7 c1_i32_8 k0_t1
  let c1_i32_19 : BitVec 32 := 1#32
  let v48 : BitVec 32 := Scalar.muli arg21 c1_i32_19
  let v49 : BitVec 32 := Scalar.addi c0_i32_20 v48
  let c32_i32_21 : BitVec 32 := 32#32
  let v50 : BitVec 32 := Scalar.muli v49 c32_i32_21
  let v51 : BitVec 32 := v50
  let v500 : Index := Scalar.indexCast v51
  let c3072 : Index := 3072#32
  ![0, v500.toNat, 3072]
def k0_off16 (k0_t1 : Fin k0_t1_loop.trips) : Fin 3 → Nat :=
  let c0_258 : Index := 0#32
  let c0_i32_20 : BitVec 32 := 0#32
  let c0_i32_7 : BitVec 32 := 0#32
  let c1_i32_8 : BitVec 32 := 1#32
  let arg21 : BitVec 32 := Scf.iv c0_i32_7 c1_i32_8 k0_t1
  let c1_i32_19 : BitVec 32 := 1#32
  let v48 : BitVec 32 := Scalar.muli arg21 c1_i32_19
  let v49 : BitVec 32 := Scalar.addi c0_i32_20 v48
  let c32_i32_21 : BitVec 32 := 32#32
  let v50 : BitVec 32 := Scalar.muli v49 c32_i32_21
  let v51 : BitVec 32 := v50
  let v537 : Index := Scalar.indexCast v51
  let c3328 : Index := 3328#32
  ![0, v537.toNat, 3328]
def k0_mult2 (k0_t1 : Fin k0_t1_loop.trips) : BitVec 32 :=
  let c0_i32_20 : BitVec 32 := 0#32
  let c0_i32_7 : BitVec 32 := 0#32
  let c1_i32_8 : BitVec 32 := 1#32
  let arg21 : BitVec 32 := Scf.iv c0_i32_7 c1_i32_8 k0_t1
  let c1_i32_19 : BitVec 32 := 1#32
  let v48 : BitVec 32 := Scalar.muli arg21 c1_i32_19
  let v49 : BitVec 32 := Scalar.addi c0_i32_20 v48
  let c32_i32_281 : BitVec 32 := 32#32
  let v584 : BitVec 32 := Scalar.muli v49 c32_i32_281
  v584
def k0_mult3 (k0_t1 : Fin k0_t1_loop.trips) : BitVec 32 :=
  let c0_i32_20 : BitVec 32 := 0#32
  let c0_i32_7 : BitVec 32 := 0#32
  let c1_i32_8 : BitVec 32 := 1#32
  let arg21 : BitVec 32 := Scf.iv c0_i32_7 c1_i32_8 k0_t1
  let c1_i32_19 : BitVec 32 := 1#32
  let v48 : BitVec 32 := Scalar.muli arg21 c1_i32_19
  let v49 : BitVec 32 := Scalar.addi c0_i32_20 v48
  let c32_i32_451 : BitVec 32 := 32#32
  let v925 : BitVec 32 := Scalar.muli v49 c32_i32_451
  v925
def k0_cond2 (i : grid0.Coords) : BitVec 1 :=
  let arg0 : BitVec 32 := BitVec.ofNat 32 (i 0).val
  let c11_i32 : BitVec 32 := 11#32
  let v43 : BitVec 1 := Scalar.cmpi .eq arg0 c11_i32
  let arg1 : BitVec 32 := BitVec.ofNat 32 (i 1).val
  let c15_i32 : BitVec 32 := 15#32
  let v44 : BitVec 1 := Scalar.cmpi .eq arg1 c15_i32
  let v45 : BitVec 1 := Scalar.andi v43 v44
  let v46 : BitVec 32 := Scalar.extui v45
  let c0_i32_18 : BitVec 32 := 0#32
  let v47 : BitVec 1 := Scalar.cmpi .ne v46 c0_i32_18
  v47

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S12x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x3584 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x3584 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S12x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== KernelIdeal.lean ====
variable {F : FTy → Type} [FloatOps F] [Named F]
def κ : String → Option EReal := fun
  | "inv_d" => some ((1 / 3584 : ℝ) : EReal)
  | _ => none
-- ==== ReferenceIdeal.lean ====
abbrev S12x4096x3584 : Shape := ⟨3, ![12, 4096, 3584]⟩
abbrev S3584 : Shape := ⟨1, ![3584]⟩
abbrev S12x4096 : Shape := ⟨2, ![12, 4096]⟩
abbrev S12x4096x1 : Shape := ⟨3, ![12, 4096, 1]⟩
abbrev S1x1x3584 : Shape := ⟨3, ![1, 1, 3584]⟩
abbrev S_ : Shape := ⟨0, ![]⟩
abbrev S1x3584 : Shape := ⟨2, ![1, 3584]⟩

abbrev nBuf : Space → Nat
  | .hbm => 73
  | .vmem => 2
  | .smem => 0
  | _ => 0

abbrev bufTy : (tb : Table) → Fin (tcTables nBuf tb) → BufTy
  | .hbm, ⟨0, _⟩ => ⟨S12x4096x3584, .bf16⟩
  | .hbm, ⟨1, _⟩ => ⟨S12x4096x3584, .bf16⟩
  | .hbm, ⟨2, _⟩ => ⟨S3584, .f32⟩
  | .hbm, ⟨3, _⟩ => ⟨S12x4096, .f32⟩
  | .hbm, ⟨4, _⟩ => ⟨S12x4096x3584, .bf16⟩
  | .hbm, ⟨5, _⟩ => ⟨S12x4096x3584, .f32⟩
  | .hbm, ⟨6, _⟩ => ⟨S12x4096x3584, .f32⟩
  | .hbm, ⟨7, _⟩ => ⟨S12x4096x1, .f32⟩
  | .hbm, ⟨8, _⟩ => ⟨S12x4096x3584, .f32⟩
  | .hbm, ⟨9, _⟩ => ⟨S12x4096x3584, .f32⟩
  | .hbm, ⟨10, _⟩ => ⟨S1x1x3584, .f32⟩
  | .hbm, ⟨11, _⟩ => ⟨S12x4096x3584, .f32⟩
  | .hbm, ⟨12, _⟩ => ⟨S12x4096x3584, .f32⟩
  | .hbm, ⟨13, _⟩ => ⟨S12x4096x3584, .f32⟩
  | .hbm, ⟨14, _⟩ => ⟨S_, .f32⟩
  | .hbm, ⟨15, _⟩ => ⟨S12x4096, .f32⟩
  | .hbm, ⟨16, _⟩ => ⟨S12x4096x1, .f32⟩
  | .hbm, ⟨17, _⟩ => ⟨S_, .f32⟩
  | .hbm, ⟨18, _⟩ => ⟨S12x4096x1, .f32⟩
  | .hbm, ⟨19, _⟩ => ⟨S12x4096x1, .f32⟩
  | .hbm, ⟨20, _⟩ => ⟨S12x4096x3584, .f32⟩
  | .hbm, ⟨21, _⟩ => ⟨S12x4096x3584, .f32⟩
  | .hbm, ⟨22, _⟩ => ⟨S12x4096x3584, .f32⟩
  | .hbm, ⟨23, _⟩ => ⟨S12x4096x3584, .f32⟩
  | .hbm, ⟨24, _⟩ => ⟨S12x4096x3584, .f32⟩
  | .hbm, ⟨25, _⟩ => ⟨S12x4096x3584, .f32⟩
  | .hbm, ⟨26, _⟩ => ⟨S_, .f32⟩
  | .hbm, ⟨27, _⟩ => ⟨S3584, .f32⟩
  | .hbm, ⟨28, _⟩ => ⟨S12x4096x3584, .f32⟩
  | .hbm, ⟨29, _⟩ => ⟨S12x4096x3584, .f32⟩
  | .hbm, ⟨30, _⟩ => ⟨S1x3584, .f32⟩
  | .hbm, ⟨31, _⟩ => ⟨S12x4096x3584, .bf16⟩
  | .hbm, ⟨32, _⟩ => ⟨S12x4096x3584, .f32⟩
  | .hbm, ⟨33, _⟩ => ⟨S_, .f32⟩
  | .hbm, ⟨34, _⟩ => ⟨S12x4096, .f32⟩
  | .hbm, ⟨35, _⟩ => ⟨S_, .f32⟩
  | .hbm, ⟨36, _⟩ => ⟨S12x4096, .f32⟩
  | .hbm, ⟨37, _⟩ => ⟨S12x4096, .f32⟩
  | .hbm, ⟨38, _⟩ => ⟨S_, .f32⟩
  | .hbm, ⟨39, _⟩ => ⟨S12x4096, .f32⟩
  | .hbm, ⟨40, _⟩ => ⟨S12x4096, .i1⟩
  | .hbm, ⟨41, _⟩ => ⟨S12x4096, .f32⟩
  | .hbm, ⟨42, _⟩ => ⟨S_, .f32⟩
  | .hbm, ⟨43, _⟩ => ⟨S_, .f32⟩
  | .hbm, ⟨44, _⟩ => ⟨S12x4096, .f32⟩
  | .hbm, ⟨45, _⟩ => ⟨S12x4096, .f32⟩
  | .hbm, ⟨46, _⟩ => ⟨S12x4096, .f32⟩
  | .hbm, ⟨47, _⟩ => ⟨S_, .f32⟩
  | .hbm, ⟨48, _⟩ => ⟨S12x4096, .f32⟩
  | .hbm, ⟨49, _⟩ => ⟨S12x4096, .f32⟩
  | .hbm, ⟨50, _⟩ => ⟨S_, .f32⟩
  | .hbm, ⟨51, _⟩ => ⟨S_, .f32⟩
  | .hbm, ⟨52, _⟩ => ⟨S12x4096, .f32⟩
  | .hbm, ⟨53, _⟩ => ⟨S12x4096, .f32⟩
  | .hbm, ⟨54, _⟩ => ⟨S_, .f32⟩
  | .hbm, ⟨55, _⟩ => ⟨S12x4096, .f32⟩
  | .hbm, ⟨56, _⟩ => ⟨S12x4096, .f32⟩
  | .hbm, ⟨57, _⟩ => ⟨S12x4096, .f32⟩
  | .hbm, ⟨58, _⟩ => ⟨S_, .f32⟩
  | .hbm, ⟨59, _⟩ => ⟨S12x4096, .f32⟩
  | .hbm, ⟨60, _⟩ => ⟨S12x4096, .f32⟩
  | .hbm, ⟨61, _⟩ => ⟨S12x4096x1, .f32⟩
  | .hbm, ⟨62, _⟩ => ⟨S12x4096x3584, .f32⟩
  | .hbm, ⟨63, _⟩ => ⟨S12x4096x3584, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S12x4096x3584, .f32⟩
  | .hbm, ⟨68, _⟩ => ⟨S12x4096x3584, .f32⟩
  | .hbm, ⟨69, _⟩ => ⟨S_, .f32⟩
  | .hbm, ⟨70, _⟩ => ⟨S12x4096x3584, .f32⟩
  | .hbm, ⟨71, _⟩ => ⟨S12x4096x3584, .f32⟩
  | .hbm, ⟨72, _⟩ => ⟨S12x4096x3584, .fp8e5m2⟩
  | .local _ .vmem, ⟨0, _⟩ => ⟨S12x4096x3584, .f32⟩
  | .local _ .vmem, ⟨1, _⟩ => ⟨S12x4096x3584, .fp8e5m2⟩
  | _, _ => ⟨S12x4096x3584, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_call0_v0 : Ref sig .tc := ⟨.hbm, 51, rfl⟩
abbrev main_call0_v1 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_cst_11 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v46 : Ref sig .tc := ⟨.hbm, 71, rfl⟩
abbrev main_v47 : Ref sig .tc := ⟨.hbm, 72, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S12x4096x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x4096x3584 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Runs.lean ====
/- Straight-line kernel code as a function on the contents of its buffers. The buffers a body touches are a finite
   family of memrefs; a state gives what each of them reads, and `Runs p st a st'` says that the program `p`, run from
   the state `st`, returns `a` and leaves the state `st'`. The rules below are those of a load, a store, a sequence and
   a counted loop. -/
module

public import Idealize.ShloMosaic.Lib.VecWindow
public import Idealize.ShloMosaic.Lib.Tactic
public import Idealize.ShloMosaic.Lib.Pipeline.Kit

@[expose] public section

noncomputable section

namespace Cert.Runs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type} {Λ : Labels}
variable {Ix Name U Lvl : Type} [DecidableEq Ix] [DecidableEq Name] [URA U] [Preorder Lvl]

local notation "𝕄" => MT nD τ sig Ix Val Name U Lvl

variable (defs : Defs nD τ sig Val Λ) (𝒱 : Variants) (c : Dev nD) (bd : Option 𝒱.V) (E : Set Name)
variable {ι : Type} [Fintype ι] [DecidableEq ι] {sh : ι → Shape} {el : ι → EltTy}
variable (M : (k : ι) → Memref sig .tc .vmem (sh k) (el k))

/-- What every buffer of the family reads. -/
abbrev St (Val : EltTy → Type) (sh : ι → Shape) (el : ι → EltTy) : Type := (k : ι) → (sh k).Idx → Val (el k)

/-- The family's buffers, each owned whole, reading the state. -/
def own (st : St Val sh el) : sProp 𝕄 := bigSep Finset.univ fun k => owns (c : Thread nD τ) (M k) fullShare (st k)

/-- From the state `st` the program returns `a` and leaves `st'`. -/
def Runs {α : Type} (p : Prog (TpuEff nD τ sig Val Λ .tc) α) (st : St Val sh el) (a : α) (st' : St Val sh el) : Prop :=
  ∀ Q : α → sProp 𝕄, iprop(own c M st ∗ (own c M st' -∗ Q a)) ⊢ wp frame (wpE defs 𝒱 (c : Thread nD τ) bd) E p Q

variable {defs 𝒱 c bd E M}

/-- Returning changes nothing. -/
theorem Runs.ret {α : Type} (a : α) (st : St Val sh el) : Runs (Ix := Ix) (Name := Name) (U := U) (Lvl := Lvl) defs 𝒱 c bd E M (Prog.ret a) st a st := by
  intro Q
  iintro ⟨H, HQ⟩
  iapply (le_wp_ret frame (wpE defs 𝒱 (c : Thread nD τ) bd) E a Q)
  iapply HQ; iexact H

/-- Two programs in sequence. -/
theorem Runs.bind {α β : Type} {p : Prog (TpuEff nD τ sig Val Λ .tc) α} {k : α → Prog (TpuEff nD τ sig Val Λ .tc) β}
    {st st' st'' : St Val sh el} {a : α} {b : β} (hp : Runs (Ix := Ix) (Name := Name) (U := U) (Lvl := Lvl) defs 𝒱 c bd E M p st a st') (hk : Runs (Ix := Ix) (Name := Name) (U := U) (Lvl := Lvl) defs 𝒱 c bd E M (k a) st' b st'') :
    Runs (Ix := Ix) (Name := Name) (U := U) (Lvl := Lvl) defs 𝒱 c bd E M (p >>= k) st b st'' := by
  intro Q
  rw [wp_bind]
  refine BIBase.Entails.trans ?_ (hp _)
  exact sep_mono_right (BIClass.wand_intro ((sep_comm.1).trans (hk Q)))

/-- A family member taken out, its value replaced, and the family put back. -/
theorem own_update (st : St Val sh el) (k : ι) (x : (sh k).Idx → Val (el k)) :
    (own c M (Function.update st k x) : sProp 𝕄)
      = iprop(owns (c : Thread nD τ) (M k) fullShare x ∗ bigSep (Finset.univ.erase k) fun j => owns (c : Thread nD τ) (M j) fullShare (st j)) := by
  unfold own
  rw [bigSep_univ_split k, Function.update_self]
  congr 1
  exact bigSep_congr fun j hj => by rw [Function.update_of_ne (Finset.ne_of_mem_erase hj)]

/-- A family member taken out. -/
theorem own_split (st : St Val sh el) (k : ι) :
    (own c M st : sProp 𝕄)
      = iprop(owns (c : Thread nD τ) (M k) fullShare (st k) ∗ bigSep (Finset.univ.erase k) fun j => owns (c : Thread nD τ) (M j) fullShare (st j)) := by
  unfold own
  rw [bigSep_univ_split k]
  rfl

/-- A load at a unit-stride rectangle returns that window of what its buffer reads. -/
theorem Runs.load (k : ι) {off : Fin (sh k).rank → ℕ} {size : Fin (sh k).rank → ℕ} (off' : Fin (sh k).rank → ℕ)
    (inb : ∀ a, off a + size a ≤ (sh k).size a) (h : off = off') (inb' : ∀ a, off' a + size a ≤ (sh k).size a)
    (hl : (M k).view.LoadsAt (Rect.unit off size inb).toLoadRect) (st : St Val sh el) :
    Runs (Ix := Ix) (Name := Name) (U := U) (Lvl := Lvl) defs 𝒱 c bd E M (Prog.lift (.load (M k) (Rect.unit off size inb).toLoadRect hl)) st (VecWindow.window (st k) off' size inb') st := by
  intro Q
  rw [own_split st k]
  unfold owns
  iintro ⟨⟨⟨%f, %hf, H⟩, HR⟩, HQ⟩
  ihave HW := (wp_load (defs := defs) 𝒱 (c : Thread nD τ) bd E (Q := Q) (hl := hl) (k := Prog.ret) (m := M k)
    (S := (M k).view.set) (q := fullShare) (f := f) (View.setOn_subset_set _ _)) $$ H
  iapply HW
  iintro H
  iapply (le_wp_ret frame (wpE defs 𝒱 (c : Thread nD τ) bd) E _ Q)
  rw [View.readAt_unit (M k).view f inb h inb', hf]
  iapply HQ
  isplitl [H]
  · iexists f
    isplitr
    · ipureintro; exact hf
    · iexact H
  · iexact HR

/-- A whole store at a unit-stride rectangle puts its payload over that window of what its buffer reads. -/
theorem Runs.store (k : ι) {off : Fin (sh k).rank → ℕ} {size : Fin (sh k).rank → ℕ} (off' : Fin (sh k).rank → ℕ)
    (inb : ∀ a, off a + size a ≤ (sh k).size a) (h : off = off') (w : (Rect.unit off size inb).shape.Idx → Val (el k))
    (hx : ((M k).access (Rect.unit off size inb)).Stores Finset.univ) (hm) (st : St Val sh el) :
    Runs (Ix := Ix) (Name := Name) (U := U) (Lvl := Lvl) defs 𝒱 c bd E M (Prog.lift (.store (M k) (Rect.unit off size inb) w Finset.univ hx hm)) st ⟨⟩ (Function.update st k (VecWindow.put (st k) off' size w)) := by
  intro Q
  rw [own_split st k, own_update]
  unfold owns
  iintro ⟨⟨⟨%f, %hf, H⟩, HR⟩, HQ⟩
  ihave HW := (wp_store (defs := defs) 𝒱 (c : Thread nD τ) bd E (Q := Q) (hx := hx) (hm := hm) (k := Prog.ret) (m := M k) (w := w) (Mk := Finset.univ)
    (S := (M k).view.set) (f := f) ((View.setOn_subset_set _ _).trans <| View.set_slice_subset _ _)) $$ H
  iapply HW
  iintro H
  iapply (le_wp_ret frame (wpE defs 𝒱 (c : Thread nD τ) bd) E _ Q)
  iapply HQ
  isplitl [H]
  · iexists ((M k).view.writes Val f [⟨Rect.unit off size inb, w⟩])
    isplitr
    · ipureintro
      rw [View.read_writes_cons_put (M k).view f inb w [] h, View.writes_nil, hf]
    · iexact H
  · iexact HR

/-- The steps `f 0, …, f (n-1)` in a row from step `j` on, `k` of them, the value threaded through. -/
def steps {E : Type → Type} {α : Type} {n : ℕ} (f : Fin n → α → Prog E α) : (k j : ℕ) → j + k = n → α → Prog E α
  | 0, _, _, a => .ret a
  | k + 1, j, h, a => f ⟨j, by omega⟩ a >>= steps f k (j + 1) (by omega)

/-- A row of steps, each taking its state to the next. -/
theorem Runs.steps {α : Type} {n : ℕ} {f : Fin n → α → Prog (TpuEff nD τ sig Val Λ .tc) α} (S : ℕ → St Val sh el) (A : ℕ → α)
    (hf : ∀ j : Fin n, Runs (Ix := Ix) (Name := Name) (U := U) (Lvl := Lvl) defs 𝒱 c bd E M (f j (A j)) (S j) (A (j + 1)) (S (j + 1))) :
    ∀ (k j : ℕ) (h : j + k = n), Runs (Ix := Ix) (Name := Name) (U := U) (Lvl := Lvl) defs 𝒱 c bd E M (steps f k j h (A j)) (S j) (A n) (S n) := by
  intro k
  induction k with
  | zero =>
    intro j h
    obtain rfl : j = n := by omega
    exact Runs.ret _ _
  | succ k ih =>
    intro j h
    exact Runs.bind (hf ⟨j, by omega⟩) (ih (j + 1) (by omega))

/-- A counted loop carrying nothing, each trip taking its state to the next. -/
theorem Runs.loop {w : ℕ} (lb ub st : BitVec w) (hok : Scf.OK lb ub st)
    {body : Fin (Scf.trips lb ub st) → PUnit → Prog (TpuEff nD τ sig Val Λ .tc) PUnit} (S : ℕ → St Val sh el)
    (hb : ∀ t : Fin (Scf.trips lb ub st), Runs (Ix := Ix) (Name := Name) (U := U) (Lvl := Lvl) defs 𝒱 c bd E M (body t ⟨⟩) (S t) ⟨⟩ (S (t + 1))) :
    Runs (Ix := Ix) (Name := Name) (U := U) (Lvl := Lvl) defs 𝒱 c bd E M (Scf.for lb ub st hok ⟨⟩ body) (S 0) ⟨⟩ (S (Scf.trips lb ub st)) := by
  intro Q
  refine BIBase.Entails.trans ?_ (Scf.wp_for frame (wpE defs 𝒱 (c : Thread nD τ) bd) E lb ub st hok ⟨⟩ body (fun t _ => own c M (S t)) ?_)
  · iintro ⟨H, HQ⟩
    isplitl [H]
    · iexact H
    · iintro %u H
      iapply HQ; iexact H
  · intro t u
    refine BIBase.Entails.trans ?_ (hb t _)
    iintro H
    isplitl [H]
    · iexact H
    · iintro H; iexact H

/-! ## Windows of tabulated contents -/

/-- `new` where `P` holds, `old` elsewhere: contents partly overwritten. -/
def blend {X α : Type} (P : X → Prop) (new old : X → α) : X → α := open Classical in fun y => if P y then new y else old y

theorem blend_true {X α : Type} {P : X → Prop} (new old : X → α) (h : ∀ y, P y) : blend P new old = new :=
  funext fun y => if_pos (h y)
theorem blend_false {X α : Type} {P : X → Prop} (new old : X → α) (h : ∀ y, ¬ P y) : blend P new old = old :=
  funext fun y => if_neg (h y)
theorem blend_congr {X α : Type} {P P' : X → Prop} (new old : X → α) (h : ∀ y, P y ↔ P' y) : blend P new old = blend P' new old := by
  rw [show P = P' from funext fun y => propext (h y)]

/-- A put over contents partly overwritten: the overwritten part grows by the window, if the payload is the new
    contents' there. -/
theorem put_blend {s : Shape} {α : Type} (P P' : s.Idx → Prop) (new old : s.Idx → α) (off size : Fin s.rank → ℕ)
    (w : ((a : Fin s.rank) → Fin (size a)) → α)
    (hP : ∀ y, P' y ↔ P y ∨ ∀ a, off a ≤ (y a).val ∧ (y a).val < off a + size a)
    (hw : ∀ y (h : ∀ a, off a ≤ (y a).val ∧ (y a).val < off a + size a),
      w (Rect.unitLocal (s := s) (off := off) (size := size) y h) = new y) :
    VecWindow.put (blend P new old) off size w = blend P' new old := by
  funext y
  unfold VecWindow.put blend
  by_cases h : ∀ a, off a ≤ (y a).val ∧ (y a).val < off a + size a
  · rw [dif_pos h, if_pos ((hP y).2 (.inr h)), hw y h]
  · rw [dif_neg h]
    by_cases hp : P y
    · rw [if_pos hp, if_pos ((hP y).2 (.inl hp))]
    · rw [if_neg hp, if_neg fun h' => ((hP y).1 h').elim hp h]

/-- A window no part of which is overwritten yet reads the old contents. -/
theorem window_blend_old {s : Shape} {α : Type} (P : s.Idx → Prop) (new old : s.Idx → α) (off size : Fin s.rank → ℕ)
    (inb : ∀ a, off a + size a ≤ s.size a) (h : ∀ y, (∀ a, off a ≤ (y a).val ∧ (y a).val < off a + size a) → ¬ P y) :
    VecWindow.window (blend P new old) off size inb = VecWindow.window old off size inb := by
  funext y
  refine if_neg (h _ fun a => ?_)
  have e : ((Rect.unit off size inb).emb y a).val = off a + 1 * (y a).val := rfl
  have := (y a).isLt
  have hs : (Rect.unit off size inb).shape.size a = size a := rfl
  omega

end Cert.Runs

end
-- ==== Proof.Body.lean ====
/- The kernel body in short: the printed body, which repeats one chunk of columns fourteen times over and one row copy
   384 times over, is the same program written with the chunk and the copy stated once (`body_eq`). The values each
   statement stores are named here as functions of the values loaded before it. -/
module

public import proofs.«01_k».proof.Proof.Gen.KernelIdeal
public import proofs.«01_k».proof.Proof.Runs
public import Idealize.ShloMosaic.Lib.Pipeline.Regions

@[expose] public section

noncomputable section

namespace Cert.KernelIdeal.Hand

open Cert.KernelIdeal Cert.KernelIdeal.Gen
open Idealize.ShloMosaic Idealize.ShloMosaic.TcCoe
open Idealize.SL.Sem
open Cert.Runs (steps)

variable {F : FTy → Type} [FloatOps F] [Named F]

/-! ## The buffers the body touches -/

/-- The shapes of the body's nineteen buffers: five inputs, four results, ten scratch. -/
abbrev sh : Fin 19 → Shape := fun
  | 0 => S1x256x3584 | 1 => S1x256x3584 | 2 => S1x3584 | 3 => S12x4096 | 4 => S1x256x3584
  | 5 => S1x3584 | 6 => S1x256x3584 | 7 => S1x256x3584 | 8 => S12x4096
  | 9 => S8x3584 | 10 => S384x128 | 11 => S384x128 | 12 => S256x128 | 13 => S256x128
  | 14 => S1x32x3584 | 15 => S1x32x3584 | 16 => S1x32x3584 | 17 => S1x32x128 | 18 => S1x32x128
  | ⟨_ + 19, h⟩ => absurd h (Nat.not_lt.2 (Nat.le_add_left _ _))

/-- Their element types. -/
abbrev el : Fin 19 → EltTy := fun
  | 0 => .bf16 | 1 => .bf16 | 4 => .bf16 | 6 => .bf16 | 7 => .fp8e5m2 | _ => .f32

/-! ## The values stored -/

/-- A block of rows and columns as f32. -/
def pX (x : Vec F S1x32x256 .bf16) : FVec F S32x256 .f32 := extf .f32 (shapeCast S32x256 x shapeCasts_S1x32x256_S32x256) bitsLt_bf16_f32
/-- Two copies of a lane-spread column side by side. -/
def pCat (r : FVec F S32x128 .f32) : FVec F S32x256 .f32 := concatenate S32x256 1 [⟨S32x128, r⟩, ⟨S32x128, r⟩] concatenates_S32x128_S32x128_S32x256_d1
/-- `dy * rstd`. -/
def pDyr (dy : Vec F S1x32x256 .bf16) (r2 : FVec F S32x256 .f32) : FVec F S32x256 .f32 := mulf (pX dy) r2
/-- `dy * rstd * gamma`. -/
def pH (dyr : FVec F S32x256 .f32) (g : Vec F S1x256 .f32) : FVec F S32x256 .f32 :=
  mulf dyr (broadcastTo S32x256 (shapeCast S1x256 g shapeCasts_S1x256_S1x256) broadcasts_S1x256_S32x256)
/-- The running sum of `dgamma`, a chunk's 32 rows added eight apart. -/
def pDg (old : Vec F S8x256 .f32) (dyr : FVec F S32x256 .f32) (x : Vec F S1x32x256 .bf16) : FVec F S8x256 .f32 :=
  shapeCast S8x256 (addf old (multiReduction .add [0] S8x256 (shapeCast S4x8x256 (mulf dyr (pX x)) shapeCasts_S32x256_S4x8x256) 0x00000000#32 reduces_S4x8x256_S8x256 (.inl rfl) rfl)) shapeCasts_S8x256_S8x256
/-- The left 128 lanes of a chunk. -/
def pLo (q : FVec F S32x256 .f32) : FVec F S32x128 .f32 := extractStridedSlice S32x128 ![0, 0] q slices_S32x256_o0_0_S32x128
/-- The right 128 lanes of a chunk. -/
def pHi (q : FVec F S32x256 .f32) : FVec F S32x128 .f32 := extractStridedSlice S32x128 ![0, 128] q slices_S32x256_o0_128_S32x128
/-- The row sums so far, lane by lane. -/
def pAcc (acc : FVec F S32x128 .f32) (h : FVec F S32x256 .f32) (x : Vec F S1x32x256 .bf16) : FVec F S32x128 .f32 :=
  addf acc (addf (pLo (mulf h (pX x))) (pHi (mulf h (pX x))))
/-- A chunk with a leading axis of one. -/
def pUp (v : FVec F S32x256 .f32) : FVec F S1x32x256 .f32 := shapeCast S1x32x256 v shapeCasts_S32x256_S1x32x256
/-- A chunk without its leading axis of one. -/
def pDown (v : Vec F S1x32x256 .f32) : FVec F S32x256 .f32 := shapeCast S32x256 v shapeCasts_S1x32x256_S32x256
/-- The same on 128 lanes. -/
def pUp1 (v : FVec F S32x128 .f32) : FVec F S1x32x128 .f32 := shapeCast S1x32x128 v shapeCasts_S32x128_S1x32x128
def pDown1 (v : Vec F S1x32x128 .f32) : FVec F S32x128 .f32 := shapeCast S32x128 v shapeCasts_S1x32x128_S32x128
/-- Zero on 128 lanes. -/
def pZero : FVec F S32x128 .f32 := broadcast S32x128 (Scalar.ofBits .f32 0x00000000#32)
/-- `rstd * rstd * c`, `c` the row mean. -/
def pK (r acc : FVec F S32x128 .f32) : FVec F S32x128 .f32 :=
  mulf (mulf r r) (broadcastTo S32x128 (mulf (shapeCast S32x1 (multiReduction .add [1] S32 acc 0x00000000#32 reduces_S32x128_S32 (.inl rfl) rfl) shapeCasts_S32_S32x1)
    (broadcast S32x1 (Named.named κ "inv_d" 0x39924925#32 : F .f32))) broadcasts_S32x1_S32x128)
/-- `dtotal` on a chunk. -/
def pV (t x : Vec F S1x32x256 .f32) (k2 : FVec F S32x256 .f32) : FVec F S32x256 .f32 := subf (pDown t) (mulf (pDown x) k2)
/-- The greatest magnitude of a row so far, lane by lane. -/
def pMax (amax : FVec F S32x128 .f32) (v : FVec F S32x256 .f32) : FVec F S32x128 .f32 :=
  maximumf amax (maximumf (pLo (absf v)) (pHi (absf v)))
/-- `dtotal` rounded to bf16. -/
def pBf (v : FVec F S32x256 .f32) : FVec F S1x32x256 .bf16 := shapeCast S1x32x256 (truncf .bf16 v bitsLt_bf16_f32) shapeCasts_S32x256_S1x32x256
/-- The greatest magnitude of each row, spread over the lanes. -/
def pRow (amax : FVec F S32x128 .f32) : FVec F S32x128 .f32 :=
  broadcastTo S32x128 (shapeCast S32x1 (shapeCast S32x1 (multiReduction .maximumf [1] S32 amax 0xFF800000#32 reduces_S32x128_S32 (.inl rfl) rfl) shapeCasts_S32_S32x1) shapeCasts_S32x1_S32x1) broadcasts_S32x1_S32x128
/-- One bit of the exponent search: keep `field + bit` if it denotes no more than `y`. -/
def pBit (y : FVec F S32x128 .f32) (field : IVec S32x128 32) (bit : BitVec 32) : IVec S32x128 32 :=
  select (cmpf .ole (bitcastToFloat .f32 (addi field (broadcast S32x128 bit))) y) (addi field (broadcast S32x128 bit)) field
/-- `a / 57344`. -/
def pY (a : FVec F S32x128 .f32) : FVec F S32x128 .f32 := mulf a (broadcast S32x128 (Scalar.ofBits .f32 0x37924925#32))
/-- The exponent field of `a / 57344`, searched from the top bit down. -/
def pField (a : FVec F S32x128 .f32) : IVec S32x128 32 :=
  pBit (pY a) (pBit (pY a) (pBit (pY a) (pBit (pY a) (pBit (pY a) (pBit (pY a) (pBit (pY a) (pBit (pY a) (broadcast S32x128 0#32)
    1073741824#32) 536870912#32) 268435456#32) 134217728#32) 67108864#32) 33554432#32) 16777216#32) 8388608#32
/-- The rows whose scale is one: exponent field zero or all ones. -/
def pUnit (f : IVec S32x128 32) : IVec S32x128 1 := ori (cmpi .eq f (broadcast S32x128 0#32)) (cmpi .eq f (broadcast S32x128 2139095040#32))
/-- The scale. -/
def pScale (a : FVec F S32x128 .f32) : FVec F S32x128 .f32 :=
  shapeCast S32x128 (select (pUnit (pField a)) (broadcast S32x128 (Scalar.ofBits .f32 0x3F800000#32 : F .f32)) (bitcastToFloat .f32 (addi (pField a) (broadcast S32x128 8388608#32)))) shapeCasts_S32x128_S32x128
/-- Its inverse. -/
def pInv (a : FVec F S32x128 .f32) : FVec F S32x128 .f32 :=
  select (pUnit (pField a)) (broadcast S32x128 (Scalar.ofBits .f32 0x3F800000#32 : F .f32)) (bitcastToFloat .f32 (subi (broadcast S32x128 2122317824#32) (pField a)))
/-- The codes of a chunk: scaled, clipped, rounded to e5m2. -/
def pCode (v : Vec F S1x32x256 .f32) (inv2 : FVec F S32x256 .f32) : FVec F S1x32x256 .fp8e5m2 :=
  shapeCast S1x32x256 (truncf .fp8e5m2 (minimumf (broadcast S32x256 (Scalar.ofBits .f32 0x47600000#32)) (maximumf (broadcast S32x256 (Scalar.ofBits .f32 0xC7600000#32)) (mulf (pDown v) inv2))) bitsLt_fp8e5m2_f32) shapeCasts_S32x256_S1x32x256
/-- A line of row statistics spread from lanes to rows. -/
def pLine (l : Vec F S1x128 .f32) : FVec F S128x128 .f32 :=
  shapeCast S128x128 (transpose S128x128 [1, 0] (broadcastTo S128x128 (shapeCast S1x128 l shapeCasts_S1x128_S1x128) broadcasts_S1x128_S128x128) transposes_S128x128_p1_0_S128x128) shapeCasts_S128x128_S128x128
/-- Rows of a lane-spread column gathered back to a line. -/
def pUnline (b : Vec F S128x128 .f32) : FVec F S1x128 .f32 :=
  extractStridedSlice S1x128 ![0, 0] (transpose S128x128 [1, 0] b transposes_S128x128_p1_0_S128x128) slices_S128x128_o0_0_S1x128
/-- A line copied as it is. -/
def pCopy (l : Vec F S1x128 .f32) : FVec F S1x128 .f32 := shapeCast S1x128 l shapeCasts_S1x128_S1x128
/-- The zeros `dgamma`'s sum starts from. -/
def pDg0 : FVec F S8x3584 .f32 := shapeCast S8x3584 (broadcast S8x3584 (Scalar.ofBits .f32 0x00000000#32 : F .f32)) shapeCasts_S8x3584_S8x3584
/-- `dgamma`: the eight partial sums added. -/
def pDgamma (dg : Vec F S8x3584 .f32) : FVec F S1x3584 .f32 :=
  shapeCast S1x3584 (multiReduction .add [0] S3584 dg 0x00000000#32 reduces_S8x3584_S3584 (.inl rfl) rfl) shapeCasts_S3584_S1x3584

/-! ## The rectangles -/

/-- Chunk `j` of the block's rows of trip `u`, as the kernel computes its offsets. -/
def offC (u : Fin k0_t1_loop.trips) : Fin 14 → Fin 3 → ℕ := fun
  | 0 => k0_off3 u | 1 => k0_off4 u | 2 => k0_off5 u | 3 => k0_off6 u | 4 => k0_off7 u | 5 => k0_off8 u | 6 => k0_off9 u
  | 7 => k0_off10 u | 8 => k0_off11 u | 9 => k0_off12 u | 10 => k0_off13 u | 11 => k0_off14 u | 12 => k0_off15 u | 13 => k0_off16 u
  | ⟨_ + 14, h⟩ => absurd h (Nat.not_lt.2 (Nat.le_add_left _ _))

/-- In closed form: rows from `32 u`, columns from `256 j`. -/
theorem offC_eq (u : Fin k0_t1_loop.trips) (j : Fin 14) : offC u j = ![0, 32 * u.val, 256 * j.val] := by
  fin_cases j
  · exact k0_off3_eq u
  · exact k0_off4_eq u
  · exact k0_off5_eq u
  · exact k0_off6_eq u
  · exact k0_off7_eq u
  · exact k0_off8_eq u
  · exact k0_off9_eq u
  · exact k0_off10_eq u
  · exact k0_off11_eq u
  · exact k0_off12_eq u
  · exact k0_off13_eq u
  · exact k0_off14_eq u
  · exact k0_off15_eq u
  · exact k0_off16_eq u

/-- Every trip's chunk lies in the block. -/
theorem inbC (u : Fin k0_t1_loop.trips) (j : Fin 14) : ∀ a, offC u j a + S1x32x256.size a ≤ S1x256x3584.size a := by
  fin_cases j
  · exact k0_off3_inb u
  · exact k0_off4_inb u
  · exact k0_off5_inb u
  · exact k0_off6_inb u
  · exact k0_off7_inb u
  · exact k0_off8_inb u
  · exact k0_off9_inb u
  · exact k0_off10_inb u
  · exact k0_off11_inb u
  · exact k0_off12_inb u
  · exact k0_off13_inb u
  · exact k0_off14_inb u
  · exact k0_off15_inb u
  · exact k0_off16_inb u

/-- A chunk of bf16 is whole words, -/
theorem packedBf (u : Fin k0_t1_loop.trips) (j : Fin 14) :
    (Rect.unit (s := S1x256x3584) (offC u j) S1x32x256.size (inbC u j)).PackedRows (EltTy.packing .bf16) := by
  fin_cases j
  · exact k0_off3_packedbf16 u
  · exact k0_off4_packedbf16 u
  · exact k0_off5_packedbf16 u
  · exact k0_off6_packedbf16 u
  · exact k0_off7_packedbf16 u
  · exact k0_off8_packedbf16 u
  · exact k0_off9_packedbf16 u
  · exact k0_off10_packedbf16 u
  · exact k0_off11_packedbf16 u
  · exact k0_off12_packedbf16 u
  · exact k0_off13_packedbf16 u
  · exact k0_off14_packedbf16 u
  · exact k0_off15_packedbf16 u
  · exact k0_off16_packedbf16 u

/-- and so is a chunk of e5m2. -/
theorem packedF8 (u : Fin k0_t1_loop.trips) (j : Fin 14) :
    (Rect.unit (s := S1x256x3584) (offC u j) S1x32x256.size (inbC u j)).PackedRows (EltTy.packing .fp8e5m2) := by
  fin_cases j
  · exact k0_off3_packedfp8e5m2 u
  · exact k0_off4_packedfp8e5m2 u
  · exact k0_off5_packedfp8e5m2 u
  · exact k0_off6_packedfp8e5m2 u
  · exact k0_off7_packedfp8e5m2 u
  · exact k0_off8_packedfp8e5m2 u
  · exact k0_off9_packedfp8e5m2 u
  · exact k0_off10_packedfp8e5m2 u
  · exact k0_off11_packedfp8e5m2 u
  · exact k0_off12_packedfp8e5m2 u
  · exact k0_off13_packedfp8e5m2 u
  · exact k0_off14_packedfp8e5m2 u
  · exact k0_off15_packedfp8e5m2 u
  · exact k0_off16_packedfp8e5m2 u

theorem inb2 (j : Fin 14) : ∀ a, (![0, 256 * j.val] : Fin 2 → ℕ) a + S1x256.size a ≤ S1x3584.size a := by
  intro a; have := j.isLt; fin_cases a <;> simp <;> omega
theorem inb8 (j : Fin 14) : ∀ a, (![0, 256 * j.val] : Fin 2 → ℕ) a + S8x256.size a ≤ S8x3584.size a := by
  intro a; have := j.isLt; fin_cases a <;> simp <;> omega
theorem inb3 (j : Fin 14) : ∀ a, (![0, 0, 256 * j.val] : Fin 3 → ℕ) a + S1x32x256.size a ≤ S1x32x3584.size a := by
  intro a; have := j.isLt; fin_cases a <;> simp <;> omega
theorem inbL (n : Fin 384) : ∀ a, (![n.val, 0] : Fin 2 → ℕ) a + S1x128.size a ≤ S384x128.size a := by
  intro a; have := n.isLt; fin_cases a <;> simp <;> omega
theorem inbS (n : Fin 384) : ∀ a, (![n.val / 32, 128 * (n.val % 32)] : Fin 2 → ℕ) a + S1x128.size a ≤ S12x4096.size a := by
  intro a; have := n.isLt; fin_cases a <;> simp <;> omega

/-! ## The program -/

variable (M : (k : Fin 19) → Memref sig .tc .vmem (sh k) (el k)) (hM : ∀ k, (M k).IsWhole)

/-- A load of the window at `off` of buffer `k`. -/
abbrev ld (k : Fin 19) (off size : Fin (sh k).rank → ℕ) (inb : ∀ a, off a + size a ≤ (sh k).size a)
    (h : 0 < (Rect.unit off size inb).shape.numel) : Prog (TpuEff nD τ sig (Elt F) Λ₀ .tc) ((Rect.unit off size inb).shape.Idx → Elt F (el k)) :=
  Prog.lift (.load (M k) (Rect.unit off size inb).toLoadRect (View.loadsAt_vmem h))

/-- A store over the window at `off` of buffer `k`. -/
abbrev sto (k : Fin 19) (off size : Fin (sh k).rank → ℕ) (inb : ∀ a, off a + size a ≤ (sh k).size a)
    (w : (Rect.unit off size inb).shape.Idx → Elt F (el k)) (hx : ((M k).access (Rect.unit off size inb)).Stores Finset.univ) : Prog (TpuEff nD τ sig (Elt F) Λ₀ .tc) PUnit :=
  Prog.lift (.store (M k) (Rect.unit off size inb) w Finset.univ hx (.inl rfl))

/-- Line `n` of `rstd` copied to the line scratch. -/
def copyIn (n : Fin 384) (_ : PUnit) : Prog (TpuEff nD τ sig (Elt F) Λ₀ .tc) PUnit := do
  let l ← ld M 3 ![n.val / 32, 128 * (n.val % 32)] S1x128.size (inbS n) h_S1x128
  let _ ← ld M 10 ![n.val, 0] S1x128.size (inbL n) h_S1x128
  sto M 10 ![n.val, 0] S1x128.size (inbL n) (pCopy l) (View.stores_vmem_bits_univ h_S1x128 rfl)

/-- Line `n` of the scales copied out of the line scratch. -/
def copyOut (n : Fin 384) (_ : PUnit) : Prog (TpuEff nD τ sig (Elt F) Λ₀ .tc) PUnit := do
  let l ← ld M 11 ![n.val, 0] S1x128.size (inbL n) h_S1x128
  let _ ← ld M 8 ![n.val / 32, 128 * (n.val % 32)] S1x128.size (inbS n) h_S1x128
  sto M 8 ![n.val / 32, 128 * (n.val % 32)] S1x128.size (inbS n) l (View.stores_vmem_bits_univ h_S1x128 rfl)

/-- Phase A on chunk `j`. -/
def chunkA (u : Fin k0_t1_loop.trips) (r2 : FVec F S32x256 .f32) (j : Fin 14) (acc : FVec F S32x128 .f32) : Prog (TpuEff nD τ sig (Elt F) Λ₀ .tc) (FVec F S32x128 .f32) := do
  let x ← ld M 0 (offC u j) S1x32x256.size (inbC u j) h_S1x32x256
  let dy ← ld M 1 (offC u j) S1x32x256.size (inbC u j) h_S1x32x256
  let g ← ld M 2 ![0, 256 * j.val] S1x256.size (inb2 j) h_S1x256
  let old ← ld M 9 ![0, 256 * j.val] S8x256.size (inb8 j) h_S8x256
  let _ ← ld M 9 ![0, 256 * j.val] S8x256.size (inb8 j) h_S8x256
  sto M 9 ![0, 256 * j.val] S8x256.size (inb8 j) (pDg old (pDyr dy r2) x) (View.stores_vmem_bits_univ h_S8x256 rfl)
  let _ ← ld M 14 ![0, 0, 256 * j.val] S1x32x256.size (inb3 j) h_S1x32x256
  sto M 14 ![0, 0, 256 * j.val] S1x32x256.size (inb3 j) (pUp (pX x)) (View.stores_vmem_bits_univ h_S1x32x256 rfl)
  let dr ← ld M 4 (offC u j) S1x32x256.size (inbC u j) h_S1x32x256
  let _ ← ld M 15 ![0, 0, 256 * j.val] S1x32x256.size (inb3 j) h_S1x32x256
  sto M 15 ![0, 0, 256 * j.val] S1x32x256.size (inb3 j) (pUp (addf (pH (pDyr dy r2) g) (pX dr))) (View.stores_vmem_bits_univ h_S1x32x256 rfl)
  pure (pAcc acc (pH (pDyr dy r2) g) x)

/-- Phase B on chunk `j`. -/
def chunkB (u : Fin k0_t1_loop.trips) (k2 : FVec F S32x256 .f32) (j : Fin 14) (amax : FVec F S32x128 .f32) : Prog (TpuEff nD τ sig (Elt F) Λ₀ .tc) (FVec F S32x128 .f32) := do
  let t ← ld M 15 ![0, 0, 256 * j.val] S1x32x256.size (inb3 j) h_S1x32x256
  let x ← ld M 14 ![0, 0, 256 * j.val] S1x32x256.size (inb3 j) h_S1x32x256
  let _ ← ld M 6 (offC u j) S1x32x256.size (inbC u j) h_S1x32x256
  sto M 6 (offC u j) S1x32x256.size (inbC u j) (pBf (pV t x k2)) (View.stores_vmem h_S1x32x256 ((hM 6).storeExact_slice rfl _ (packedBf u j)) (fun _ => rfl))
  let _ ← ld M 16 ![0, 0, 256 * j.val] S1x32x256.size (inb3 j) h_S1x32x256
  sto M 16 ![0, 0, 256 * j.val] S1x32x256.size (inb3 j) (pUp (pV t x k2)) (View.stores_vmem_bits_univ h_S1x32x256 rfl)
  pure (pMax amax (pV t x k2))

/-- Phase C on chunk `j`. -/
def chunkC (u : Fin k0_t1_loop.trips) (inv2 : FVec F S32x256 .f32) (j : Fin 14) (_ : PUnit) : Prog (TpuEff nD τ sig (Elt F) Λ₀ .tc) PUnit := do
  let v ← ld M 16 ![0, 0, 256 * j.val] S1x32x256.size (inb3 j) h_S1x32x256
  let _ ← ld M 7 (offC u j) S1x32x256.size (inbC u j) h_S1x32x256
  sto M 7 (offC u j) S1x32x256.size (inbC u j) (pCode v inv2) (View.stores_vmem h_S1x32x256 ((hM 7).storeExact_slice rfl _ (packedF8 u j)) (fun _ => rfl))

/-- One trip: 32 rows through the three phases. -/
def trip (u : Fin k0_t1_loop.trips) (_ : PUnit) : Prog (TpuEff nD τ sig (Elt F) Λ₀ .tc) PUnit := do
  let r ← ld M 12 (k0_off2 u) S32x128.size (k0_off2_inb u) h_S32x128
  let acc ← steps (chunkA M u (pCat r)) 14 0 rfl pZero
  let _ ← ld M 17 ![0, 0, 0] S1x32x128.size inb_S1x32x128_S1x32x128_0_0_0 h_S1x32x128
  sto M 17 ![0, 0, 0] S1x32x128.size inb_S1x32x128_S1x32x128_0_0_0 (pUp1 (pK r acc)) (View.stores_vmem_bits_univ h_S1x32x128 rfl)
  let k ← ld M 17 ![0, 0, 0] S1x32x128.size inb_S1x32x128_S1x32x128_0_0_0 h_S1x32x128
  let amax ← steps (chunkB M hM u (pCat (pDown1 k))) 14 0 rfl pZero
  let _ ← ld M 13 (k0_off2 u) S32x128.size (k0_off2_inb u) h_S32x128
  sto M 13 (k0_off2 u) S32x128.size (k0_off2_inb u) (pScale (pRow amax)) (View.stores_vmem_bits_univ h_S32x128 rfl)
  let _ ← ld M 18 ![0, 0, 0] S1x32x128.size inb_S1x32x128_S1x32x128_0_0_0 h_S1x32x128
  sto M 18 ![0, 0, 0] S1x32x128.size inb_S1x32x128_S1x32x128_0_0_0 (pUp1 (pInv (pRow amax))) (View.stores_vmem_bits_univ h_S1x32x128 rfl)
  let inv ← ld M 18 ![0, 0, 0] S1x32x128.size inb_S1x32x128_S1x32x128_0_0_0 h_S1x32x128
  steps (chunkC M hM u (pCat (pDown1 inv))) 14 0 rfl ⟨⟩

/-- The condition of the first branch: the grid's first point. -/
def cond1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- At the first point: the sum of `dgamma` cleared, the row statistics copied into lines. -/
def start : Prog (TpuEff nD τ sig (Elt F) Λ₀ .tc) PUnit := do
  let _ ← ld M 9 ![0, 0] S8x3584.size inb_S8x3584_S8x3584_0_0 h_S8x3584
  sto M 9 ![0, 0] S8x3584.size inb_S8x3584_S8x3584_0_0 pDg0 (View.stores_vmem_bits_univ h_S8x3584 rfl)
  steps (copyIn M) 384 0 rfl ⟨⟩

/-- At the last point: `dgamma` and the scales written out. -/
def finish : Prog (TpuEff nD τ sig (Elt F) Λ₀ .tc) PUnit := do
  let dg ← ld M 9 ![0, 0] S8x3584.size inb_S8x3584_S8x3584_0_0 h_S8x3584
  let _ ← ld M 5 ![0, 0] S1x3584.size inb_S1x3584_S1x3584_0_0 h_S1x3584
  sto M 5 ![0, 0] S1x3584.size inb_S1x3584_S1x3584_0_0 (pDgamma dg) (View.stores_vmem_bits_univ h_S1x3584 rfl)
  steps (copyOut M) 384 0 rfl ⟨⟩

/-- The rows' statistics spread over the lanes, 128 rows from a line. -/
def spread (i : grid0.Coords) : Prog (TpuEff nD τ sig (Elt F) Λ₀ .tc) PUnit := do
  let l ← ld M 10 (k0_off1 i 0#32) S1x128.size (k0_off1_inb i 0) h_S1x128
  let _ ← ld M 12 ![0, 0] S128x128.size inb_S256x128_S128x128_0_0 h_S128x128
  sto M 12 ![0, 0] S128x128.size inb_S256x128_S128x128_0_0 (pLine l) (View.stores_vmem_bits_univ h_S128x128 rfl)
  let l ← ld M 10 (k0_off1 i 1#32) S1x128.size (k0_off1_inb i 1) h_S1x128
  let _ ← ld M 12 ![128, 0] S128x128.size inb_S256x128_S128x128_128_0 h_S128x128
  sto M 12 ![128, 0] S128x128.size inb_S256x128_S128x128_128_0 (pLine l) (View.stores_vmem_bits_univ h_S128x128 rfl)

/-- From the body's beginning to the first line of scales, which it returns with the point's
coordinates and the number of the line. -/
def front (i : grid0.Coords) : Prog (TpuEff nD τ sig (Elt F) Λ₀ .tc)
    (Σ' (_ : BitVec 32) (_ : BitVec 32) (_ : BitVec 32) (_ : FVec F S1x128 .f32), Vec F S1x128 .f32) := do
  if _h : cond1 i = 1#1 then do start M else do pure ⟨⟩
  spread M i
  Scf.Loop.for k0_t1_loop k0_t1_ok ⟨⟩ (trip M hM)
  let b ← ld M 13 ![0, 0] S128x128.size inb_S256x128_S128x128_0_0 h_S128x128
  let o ← ld M 11 (k0_off1 i 0#32) S1x128.size (k0_off1_inb i 0) h_S1x128
  pure ⟨BitVec.ofNat 32 (i 0).val, BitVec.ofNat 32 (i 1).val,
    Scalar.addi (Scalar.muli (BitVec.ofNat 32 (i 0).val) 32#32) (Scalar.muli (BitVec.ofNat 32 (i 1).val) 2#32), pUnline b, o⟩

/-- The body: the rows' scales are gathered back into lines after the trips, and the last point
writes out what was accumulated. -/
def body (i : grid0.Coords) : Prog (TpuEff nD τ sig (Elt F) Λ₀ .tc) PUnit := do
  let w ← front M hM i
  sto M 11 (k0_off1 i 0#32) S1x128.size (k0_off1_inb i 0) (pCopy w.2.2.2.1) (View.stores_vmem_bits_univ h_S1x128 rfl)
  let b ← ld M 13 ![128, 0] S128x128.size inb_S256x128_S128x128_128_0 h_S128x128
  let _ ← ld M 11 (k0_off1 i 1#32) S1x128.size (k0_off1_inb i 1) h_S1x128
  sto M 11 (k0_off1 i 1#32) S1x128.size (k0_off1_inb i 1) (pCopy (pUnline b)) (View.stores_vmem_bits_univ h_S1x128 rfl)
  if _h : k0_cond2 i = 1#1 then do finish M else do pure ⟨⟩
  pure ⟨⟩

set_option maxHeartbeats 0 in
/-- The printed body is the body in short. -/
theorem body_eq (i : grid0.Coords) :
    cc0_rmsnorm_bwd_e5m2 (F := F) i (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) = body M hM i := by chain_rfl

end Cert.KernelIdeal.Hand

end
-- ==== Proof.Tiling.lean ====
/- A shape cut into equal windows, one for each key: contents tabulated window by window, read back at a key, and
   overwritten one window at a time. -/
module

public import proofs.«01_k».proof.Proof.Runs

@[expose] public section

noncomputable section

namespace Cert.Runs

open Idealize.ShloMosaic

/-- A shape cut into windows of one size: `off k` is where window `k` starts, `cell y` the window index `y` lies in. -/
structure Tiling (s : Shape) (K : Type) where
  size : Fin s.rank → ℕ
  off : K → Fin s.rank → ℕ
  inb : ∀ k a, off k a + size a ≤ s.size a
  cell : s.Idx → K
  inside : ∀ y a, off (cell y) a ≤ (y a).val ∧ (y a).val < off (cell y) a + size a
  only : ∀ y k, (∀ a, off k a ≤ (y a).val ∧ (y a).val < off k a + size a) → cell y = k

namespace Tiling

variable {s : Shape} {K α : Type} (T : Tiling s K)

/-- Window `k` of `x`. -/
abbrev read (x : s.Idx → α) (k : K) : ((a : Fin s.rank) → Fin (T.size a)) → α := VecWindow.window x (T.off k) T.size (T.inb k)

/-- The contents whose window `k` is `w k`. -/
def tile (w : K → ((a : Fin s.rank) → Fin (T.size a)) → α) : s.Idx → α :=
  fun y => w (T.cell y) (Rect.unitLocal (s := s) (off := T.off (T.cell y)) (size := T.size) y (T.inside y))

/-- An index of window `k` lies in window `k`. -/
theorem cell_emb (k : K) (y : (a : Fin s.rank) → Fin (T.size a)) : T.cell ((Rect.unit (s := s) (T.off k) T.size (T.inb k)).emb y) = k := by
  refine T.only _ _ fun a => ?_
  have e : ((Rect.unit (s := s) (T.off k) T.size (T.inb k)).emb y a).val = T.off k a + 1 * (y a).val := rfl
  have := (y a).isLt
  omega

theorem tile_at (w : K → ((a : Fin s.rank) → Fin (T.size a)) → α) (k : K) (y : s.Idx)
    (h : ∀ a, T.off k a ≤ (y a).val ∧ (y a).val < T.off k a + T.size a) :
    T.tile w y = w k (Rect.unitLocal (s := s) (off := T.off k) (size := T.size) y h) := by
  obtain rfl := T.only y k h
  rfl

/-- Window `k` of tabulated contents. -/
theorem read_tile (w : K → ((a : Fin s.rank) → Fin (T.size a)) → α) (k : K) : T.read (T.tile w) k = w k := by
  funext y
  have h : ∀ a, T.off k a ≤ ((Rect.unit (s := s) (T.off k) T.size (T.inb k)).emb y a).val
      ∧ ((Rect.unit (s := s) (T.off k) T.size (T.inb k)).emb y a).val < T.off k a + T.size a := fun a => by
    have e : ((Rect.unit (s := s) (T.off k) T.size (T.inb k)).emb y a).val = T.off k a + 1 * (y a).val := rfl
    have := (y a).isLt
    omega
  refine (T.tile_at w k _ h).trans (congrArg (w k) (funext fun a => Fin.ext ?_))
  show ((Rect.unit (s := s) (T.off k) T.size (T.inb k)).emb y a).val - T.off k a = (y a).val
  have e : ((Rect.unit (s := s) (T.off k) T.size (T.inb k)).emb y a).val = T.off k a + 1 * (y a).val := rfl
  omega

/-- Contents are what their windows tabulate. -/
theorem tile_read (x : s.Idx → α) : T.tile (T.read x) = x := by
  funext y
  refine congrArg x (funext fun a => Fin.ext ?_)
  show T.off (T.cell y) a + 1 * ((y a).val - T.off (T.cell y) a) = (y a).val
  have := T.inside y a
  omega

/-- A window not overwritten yet. -/
theorem read_blend (P : s.Idx → Prop) (new old : s.Idx → α) (k : K) (h : ∀ y, T.cell y = k → ¬ P y) :
    T.read (blend P new old) k = T.read old k :=
  window_blend_old P new old _ _ _ fun y hy => h y (T.only y k hy)

/-- A window overwritten. -/
theorem read_blend_new (P : s.Idx → Prop) (new old : s.Idx → α) (k : K) (h : ∀ y, T.cell y = k → P y) :
    T.read (blend P new old) k = T.read new k :=
  funext fun y => if_pos (h _ (T.cell_emb k y))

/-- A window put over partly overwritten contents. -/
theorem put_blend (P P' : s.Idx → Prop) (w : K → ((a : Fin s.rank) → Fin (T.size a)) → α) (old : s.Idx → α) (k : K)
    (hP : ∀ y, P' y ↔ P y ∨ T.cell y = k) :
    VecWindow.put (blend P (T.tile w) old) (T.off k) T.size (w k) = blend P' (T.tile w) old := by
  refine Cert.Runs.put_blend P P' _ _ _ _ _ (fun y => (hP y).trans (or_congr_right ⟨fun h => ?_, T.only y k⟩)) fun y h => ?_
  · subst h; exact T.inside y
  · exact (T.tile_at w k y h).symm

/-- A window put over contents. -/
theorem put_eq (w : ((a : Fin s.rank) → Fin (T.size a)) → α) (old : s.Idx → α) (k : K) :
    VecWindow.put old (T.off k) T.size w = blend (fun y => T.cell y = k) (T.tile fun _ => w) old := by
  rw [← T.put_blend (fun _ => False) (fun y => T.cell y = k) (fun _ => w) old k (fun y => by simp), blend_false _ _ (fun _ h => h)]

end Tiling

/-- A window over everything replaces everything. -/
theorem put_full {s : Shape} {α : Type} (x w : s.Idx → α) (off : Fin s.rank → ℕ) (h : ∀ a, off a = 0) : VecWindow.put x off s.size w = w := by
  funext y
  have hy : ∀ a, off a ≤ (y a).val ∧ (y a).val < off a + s.size a := fun a => by have := (y a).isLt; have := h a; omega
  refine (dif_pos hy).trans (congrArg w (funext fun a => Fin.ext ?_))
  show (y a).val - off a = (y a).val
  rw [h a]; rfl

/-- A window over everything reads everything. -/
theorem window_full {s : Shape} {α : Type} (x : s.Idx → α) (off : Fin s.rank → ℕ) (h : ∀ a, off a = 0) (inb) :
    VecWindow.window x off s.size inb = x := by
  funext y
  refine congrArg x (funext fun a => Fin.ext ?_)
  show off a + 1 * (y a).val = (y a).val
  rw [h a]; omega

end Cert.Runs

end
-- ==== Proof.Exec.lean ====
/- What one trip of the body's loop does to the buffers: each of the three phases, one chunk of columns at a time. -/
module

public import proofs.«01_k».proof.Proof.Body
public import proofs.«01_k».proof.Proof.Tiling

@[expose] public section

noncomputable section

namespace Cert.Runs

open Idealize.ShloMosaic Idealize.SL Idealize.SL.RA Idealize.SL.Sem

variable {nD : ℕ} {τ : Topo} {sig : RefSig} {Val : EltTy → Type} {Λ : Labels}
variable {Ix Name U Lvl : Type} [DecidableEq Ix] [DecidableEq Name] [URA U] [Preorder Lvl]
variable {defs : Defs nD τ sig Val Λ} {𝒱 : Variants} {c : Dev nD} {bd : Option 𝒱.V} {E : Set Name}
variable {ι : Type} [Fintype ι] [DecidableEq ι] {sh : ι → Shape} {el : ι → EltTy}
variable {M : (k : ι) → Memref sig .tc .vmem (sh k) (el k)}

/-- The value returned and the state left, restated. -/
theorem Runs.congr {α : Type} {p : Prog (TpuEff nD τ sig Val Λ .tc) α} {st st' st'' : St Val sh el} {a b : α}
    (h : Runs (Ix := Ix) (Name := Name) (U := U) (Lvl := Lvl) defs 𝒱 c bd E M p st a st') (ha : a = b) (hs : st' = st'') :
    Runs (Ix := Ix) (Name := Name) (U := U) (Lvl := Lvl) defs 𝒱 c bd E M p st b st'' := by
  subst ha; subst hs; exact h

/-- The end of a program. -/
theorem Runs.done {α : Type} {st st' : St Val sh el} {a b : α} (ha : a = b) (hs : st = st') : Runs (Ix := Ix) (Name := Name) (U := U) (Lvl := Lvl) defs 𝒱 c bd E M (Prog.ret a) st b st' :=
  (Runs.ret a st).congr ha hs

/-- A load, then the rest. -/
theorem Runs.load_bind {β : Type} (k : ι) (off' : Fin (sh k).rank → ℕ) {off size : Fin (sh k).rank → ℕ} {inb : ∀ a, off a + size a ≤ (sh k).size a}
    (h : off = off') (inb' : ∀ a, off' a + size a ≤ (sh k).size a) {hl : (M k).view.LoadsAt (Rect.unit off size inb).toLoadRect}
    {f : ((Rect.unit off size inb).shape.Idx → Val (el k)) → Prog (TpuEff nD τ sig Val Λ .tc) β} {st st'' : St Val sh el} {b : β}
    (hk : Runs (Ix := Ix) (Name := Name) (U := U) (Lvl := Lvl) defs 𝒱 c bd E M (f (VecWindow.window (st k) off' size inb')) st b st'') :
    Runs (Ix := Ix) (Name := Name) (U := U) (Lvl := Lvl) defs 𝒱 c bd E M (Prog.lift (.load (M k) (Rect.unit off size inb).toLoadRect hl) >>= f) st b st'' :=
  Runs.bind (Runs.load k off' inb h inb' hl st) hk

/-- A store, then the rest. -/
theorem Runs.store_bind {β : Type} (k : ι) (off' : Fin (sh k).rank → ℕ) {off size : Fin (sh k).rank → ℕ} {inb : ∀ a, off a + size a ≤ (sh k).size a}
    (h : off = off') {w : (Rect.unit off size inb).shape.Idx → Val (el k)}
    {hx : ((M k).access (Rect.unit off size inb)).Stores Finset.univ} {hm}
    {f : PUnit → Prog (TpuEff nD τ sig Val Λ .tc) β} {st st'' : St Val sh el} {b : β}
    (hk : Runs (Ix := Ix) (Name := Name) (U := U) (Lvl := Lvl) defs 𝒱 c bd E M (f ⟨⟩) (Function.update st k (VecWindow.put (st k) off' size w)) b st'') :
    Runs (Ix := Ix) (Name := Name) (U := U) (Lvl := Lvl) defs 𝒱 c bd E M (Prog.lift (.store (M k) (Rect.unit off size inb) w Finset.univ hx hm) >>= f) st b st'' :=
  Runs.bind (Runs.store k off' inb h w hx hm st) hk

/-- A load of a whole buffer, then the rest. -/
theorem Runs.load_full_bind {β : Type} (k : ι) {off : Fin (sh k).rank → ℕ} {inb : ∀ a, off a + (sh k).size a ≤ (sh k).size a}
    (h : ∀ a, off a = 0) {hl : (M k).view.LoadsAt (Rect.unit off (sh k).size inb).toLoadRect}
    {f : ((sh k).Idx → Val (el k)) → Prog (TpuEff nD τ sig Val Λ .tc) β} {st st'' : St Val sh el} {b : β}
    (hk : Runs (Ix := Ix) (Name := Name) (U := U) (Lvl := Lvl) defs 𝒱 c bd E M (f (st k)) st b st'') :
    Runs (Ix := Ix) (Name := Name) (U := U) (Lvl := Lvl) defs 𝒱 c bd E M (Prog.lift (.load (M k) (Rect.unit off (sh k).size inb).toLoadRect hl) >>= f) st b st'' :=
  Runs.bind (Runs.load k off inb rfl inb hl st) (by rw [window_full _ _ h]; exact hk)

/-- A store over a whole buffer, then the rest. -/
theorem Runs.store_full_bind {β : Type} (k : ι) {off : Fin (sh k).rank → ℕ} {inb : ∀ a, off a + (sh k).size a ≤ (sh k).size a}
    (h : ∀ a, off a = 0) {w : (sh k).Idx → Val (el k)}
    {hx : ((M k).access (Rect.unit off (sh k).size inb)).Stores Finset.univ} {hm}
    {f : PUnit → Prog (TpuEff nD τ sig Val Λ .tc) β} {st st'' : St Val sh el} {b : β}
    (hk : Runs (Ix := Ix) (Name := Name) (U := U) (Lvl := Lvl) defs 𝒱 c bd E M (f ⟨⟩) (Function.update st k w) b st'') :
    Runs (Ix := Ix) (Name := Name) (U := U) (Lvl := Lvl) defs 𝒱 c bd E M (Prog.lift (.store (M k) (Rect.unit off (sh k).size inb) w Finset.univ hx hm) >>= f) st b st'' :=
  Runs.bind (Runs.store k off inb rfl w hx hm st) (by rw [put_full _ _ _ h]; exact hk)

end Cert.Runs

namespace Cert.KernelIdeal.Hand

open Cert.KernelIdeal Cert.KernelIdeal.Gen
open Idealize.ShloMosaic Idealize.ShloMosaic.TcCoe
open Idealize.SL Idealize.SL.RA Idealize.SL.Sem
open Cert.Runs

variable {F : FTy → Type} [FloatOps F] [Named F]

/-- The contents of the nineteen buffers. -/
abbrev State (F : FTy → Type) [FloatOps F] [Named F] : Type := St (Elt F) sh el

/-! ## The tilings -/

theorem trips_eq : k0_t1_loop.trips = 8 := by decide

/-- A block's chunks: 32 rows of a trip by 256 columns. -/
def TC : Tiling S1x256x3584 (Fin k0_t1_loop.trips × Fin 14) where
  size := S1x32x256.size
  off k := ![0, 32 * k.1.val, 256 * k.2.val]
  inb := by
    rintro ⟨u, j⟩ a; have := j.isLt; have := Nat.lt_of_lt_of_eq u.isLt trips_eq; fin_cases a <;> simp [S1x32x256, S1x256x3584] <;> omega
  cell y := (⟨(y 1).val / 32, Nat.lt_of_lt_of_eq (by have : (y 1).val < 256 := (y 1).isLt; omega : _ < 8) trips_eq.symm⟩, ⟨(y 2).val / 256, by have : (y 2).val < 3584 := (y 2).isLt; omega⟩)
  inside y a := by
    have h0 : (y 0).val < 1 := (y 0).isLt
    fin_cases a <;> simp [S1x32x256] <;> omega
  only y k h := by
    have h1 := h 1; have h2 := h 2
    simp [S1x32x256] at h1 h2
    refine Prod.ext (Fin.ext ?_) (Fin.ext ?_) <;> simp <;> omega

/-- A row's chunks. -/
def T1 : Tiling S1x3584 (Fin 14) where
  size := S1x256.size
  off j := ![0, 256 * j.val]
  inb := inb2
  cell y := ⟨(y 1).val / 256, by have : (y 1).val < 3584 := (y 1).isLt; omega⟩
  inside y a := by
    have h0 : (y 0).val < 1 := (y 0).isLt
    fin_cases a <;> simp [S1x256] <;> omega
  only y k h := by
    have h1 := h 1
    simp [S1x256] at h1
    exact Fin.ext (by simp; omega)

/-- Eight rows' chunks. -/
def T8 : Tiling S8x3584 (Fin 14) where
  size := S8x256.size
  off j := ![0, 256 * j.val]
  inb := inb8
  cell y := ⟨(y 1).val / 256, by have : (y 1).val < 3584 := (y 1).isLt; omega⟩
  inside y a := by
    have h0 : (y 0).val < 8 := (y 0).isLt
    fin_cases a <;> simp [S8x256] <;> omega
  only y k h := by
    have h1 := h 1
    simp [S8x256] at h1
    exact Fin.ext (by simp; omega)

/-- Thirty-two rows' chunks. -/
def T3 : Tiling S1x32x3584 (Fin 14) where
  size := S1x32x256.size
  off j := ![0, 0, 256 * j.val]
  inb := inb3
  cell y := ⟨(y 2).val / 256, by have : (y 2).val < 3584 := (y 2).isLt; omega⟩
  inside y a := by
    have h0 : (y 0).val < 1 := (y 0).isLt
    have h1 : (y 1).val < 32 := (y 1).isLt
    fin_cases a <;> simp [S1x32x256] <;> omega
  only y k h := by
    have h1 := h 2
    simp [S1x32x256] at h1
    exact Fin.ext (by simp; omega)

/-- The trips' rows of a lane-spread column. -/
def TR : Tiling S256x128 (Fin k0_t1_loop.trips) where
  size := S32x128.size
  off u := ![32 * u.val, 0]
  inb := by
    intro u a; have := Nat.lt_of_lt_of_eq u.isLt trips_eq; fin_cases a <;> simp [S32x128, S256x128] <;> omega
  cell y := ⟨(y 0).val / 32, Nat.lt_of_lt_of_eq (by have : (y 0).val < 256 := (y 0).isLt; omega : _ < 8) trips_eq.symm⟩
  inside y a := by
    have h1 : (y 1).val < 128 := (y 1).isLt
    fin_cases a <;> simp [S32x128] <;> omega
  only y k h := by
    have h1 := h 0
    simp [S32x128] at h1
    exact Fin.ext (by simp; omega)

/-- A lane-spread column's halves. -/
def TH : Tiling S256x128 (Fin 2) where
  size := S128x128.size
  off u := ![128 * u.val, 0]
  inb := by
    intro u a; have := u.isLt; fin_cases a <;> simp [S128x128, S256x128] <;> omega
  cell y := ⟨(y 0).val / 128, by have : (y 0).val < 256 := (y 0).isLt; omega⟩
  inside y a := by
    have h1 : (y 1).val < 128 := (y 1).isLt
    fin_cases a <;> simp [S128x128] <;> omega
  only y k h := by
    have h1 := h 0
    simp [S128x128] at h1
    exact Fin.ext (by simp; omega)

/-- Lines of 128 lanes, one below the other. -/
def TL : Tiling S384x128 (Fin 384) where
  size := S1x128.size
  off n := ![n.val, 0]
  inb := inbL
  cell y := y 0
  inside y a := by
    have h1 : (y 1).val < 128 := (y 1).isLt
    fin_cases a <;> simp [S1x128] <;> omega
  only y k h := by
    have h1 := h 0
    simp [S1x128] at h1
    exact Fin.ext (by simp; omega)

/-- Lines of 128 lanes, 32 in a row. -/
def TS : Tiling S12x4096 (Fin 384) where
  size := S1x128.size
  off n := ![n.val / 32, 128 * (n.val % 32)]
  inb := inbS
  cell y := ⟨32 * (y 0).val + (y 1).val / 128, by have : (y 0).val < 12 := (y 0).isLt; have : (y 1).val < 4096 := (y 1).isLt; omega⟩
  inside y a := by
    have h1 : (y 1).val < 4096 := (y 1).isLt
    fin_cases a <;> simp [S1x128] <;> omega
  only y k h := by
    have h0 := h 0
    have h1 := h 1
    simp [S1x128] at h0 h1
    exact Fin.ext (by simp; omega)

/-! ## Phase A: `dgamma`'s sum, the row sums, `x` and `dy·rstd·gamma + dres` kept -/

section values

variable (st : State F) (u : Fin k0_t1_loop.trips)

/-- `x` on a chunk. -/
abbrev vx (j : Fin 14) : Vec F S1x32x256 .bf16 := TC.read (st 0) (u, j)
/-- `dy·rstd` on a chunk. -/
abbrev vdyr (j : Fin 14) : FVec F S32x256 .f32 := pDyr (TC.read (st 1) (u, j)) (pCat (TR.read (st 12) u))
/-- `dy·rstd·gamma` on a chunk. -/
abbrev vh (j : Fin 14) : FVec F S32x256 .f32 := pH (vdyr st u j) (T1.read (st 2) j)
/-- The row sums over the chunks before `j`. -/
def vacc : ℕ → FVec F S32x128 .f32
  | 0 => pZero
  | j + 1 => if h : j < 14 then pAcc (vacc j) (vh st u ⟨j, h⟩) (vx st u ⟨j, h⟩) else vacc j
theorem vacc_succ (j : Fin 14) : vacc st u (j.val + 1) = pAcc (vacc st u j.val) (vh st u j) (vx st u j) := by
  rw [vacc, dif_pos j.isLt]
/-- `dgamma`'s sum after the trip, on a chunk. -/
abbrev vdg (j : Fin 14) : FVec F S8x256 .f32 := pDg (T8.read (st 9) j) (vdyr st u j) (vx st u j)
/-- `x` kept as f32. -/
abbrev vxf (j : Fin 14) : FVec F S1x32x256 .f32 := pUp (pX (vx st u j))
/-- `dy·rstd·gamma + dres` kept. -/
abbrev vt (j : Fin 14) : FVec F S1x32x256 .f32 := pUp (addf (vh st u j) (pX (TC.read (st 4) (u, j))))

/-- The state with the chunks before `j` through phase A. -/
def SA (j : ℕ) : State F :=
  Function.update (Function.update (Function.update st
    9 (blend (fun y => (T8.cell y).val < j) (T8.tile (vdg st u)) (st 9)))
    14 (blend (fun y => (T3.cell y).val < j) (T3.tile (vxf st u)) (st 14)))
    15 (blend (fun y => (T3.cell y).val < j) (T3.tile (vt st u)) (st 15))

/-- The state after phase A. -/
def outA : State F :=
  Function.update (Function.update (Function.update st 9 (T8.tile (vdg st u))) 14 (T3.tile (vxf st u))) 15 (T3.tile (vt st u))

theorem SA_zero : SA st u 0 = st := by
  unfold SA
  rw [blend_false _ _ (fun y h => Nat.not_lt_zero _ h), Function.update_eq_self, blend_false _ _ (fun y h => Nat.not_lt_zero _ h),
    Function.update_eq_self, blend_false _ _ (fun y h => Nat.not_lt_zero _ h), Function.update_eq_self]

theorem SA_end : SA st u 14 = outA st u := by
  unfold SA outA
  rw [blend_true _ _ (fun y => (T8.cell y).isLt), blend_true _ _ (fun y => (T3.cell y).isLt), blend_true _ _ (fun y => (T3.cell y).isLt)]

/-! ## Phase B: `dtotal` and the row maxima -/

variable (k2 : FVec F S32x256 .f32)

/-- `dtotal` on a chunk. -/
abbrev vv (j : Fin 14) : FVec F S32x256 .f32 := pV (T3.read (st 15) j) (T3.read (st 14) j) k2
/-- The row maxima over the chunks before `j`. -/
def vmax : ℕ → FVec F S32x128 .f32
  | 0 => pZero
  | j + 1 => if h : j < 14 then pMax (vmax j) (vv st k2 ⟨j, h⟩) else vmax j

theorem vmax_succ (j : Fin 14) : vmax st k2 (j.val + 1) = pMax (vmax st k2 j.val) (vv st k2 j) := by
  rw [vmax, dif_pos j.isLt]

/-- The state with the chunks before `j` through phase B. -/
def SB (j : ℕ) : State F :=
  Function.update (Function.update st
    6 (blend (fun y => (TC.cell y).1 = u ∧ (TC.cell y).2.val < j) (TC.tile fun k => pBf (vv st k2 k.2)) (st 6)))
    16 (blend (fun y => (T3.cell y).val < j) (T3.tile fun j => pUp (vv st k2 j)) (st 16))

/-- The state after phase B. -/
def outB : State F :=
  Function.update (Function.update st
    6 (blend (fun y => (TC.cell y).1 = u) (TC.tile fun k => pBf (vv st k2 k.2)) (st 6)))
    16 (T3.tile fun j => pUp (vv st k2 j))

theorem SB_zero : SB st u k2 0 = st := by
  unfold SB
  rw [blend_false _ _ (fun y h => Nat.not_lt_zero _ h.2), Function.update_eq_self, blend_false _ _ (fun y h => Nat.not_lt_zero _ h),
    Function.update_eq_self]

theorem SB_end : SB st u k2 14 = outB st u k2 := by
  unfold SB outB
  rw [blend_congr (P' := fun y => (TC.cell y).1 = u) _ _ (fun y => and_iff_left (TC.cell y).2.isLt), blend_true _ _ (fun y => (T3.cell y).isLt)]

/-! ## Phase C: the codes -/

/-- The state with the chunks before `j` through phase C. -/
def SC (j : ℕ) : State F :=
  Function.update st 7 (blend (fun y => (TC.cell y).1 = u ∧ (TC.cell y).2.val < j) (TC.tile fun k => pCode (T3.read (st 16) k.2) k2) (st 7))

/-- The state after phase C. -/
def outC : State F :=
  Function.update st 7 (blend (fun y => (TC.cell y).1 = u) (TC.tile fun k => pCode (T3.read (st 16) k.2) k2) (st 7))

theorem SC_zero : SC st u k2 0 = st := by
  unfold SC
  rw [blend_false _ _ (fun y h => Nat.not_lt_zero _ h.2), Function.update_eq_self]

theorem SC_end : SC st u k2 14 = outC st u k2 := by
  unfold SC outC
  rw [blend_congr (P' := fun y => (TC.cell y).1 = u) _ _ (fun y => and_iff_left (TC.cell y).2.isLt)]

end values

/-! ## The phases run -/

variable {M : (k : Fin 19) → Memref sig .tc .vmem (sh k) (el k)} {hM : ∀ k, (M k).IsWhole}
variable {Ix Name U Lvl : Type} [DecidableEq Ix] [DecidableEq Name] [URA U] [Preorder Lvl]
variable {defs : Defs nD τ sig (Elt F) Λ₀} {𝒱 : Variants} {c : Dev nD} {bd : Option 𝒱.V} {E : Set Name}

theorem cell_lt_succ {n : ℕ} (a j : Fin n) : a.val < j.val + 1 ↔ a.val < j.val ∨ a = j := by
  rw [Fin.ext_iff]; omega

theorem cell2_lt_succ {m n : ℕ} (a : Fin m × Fin n) (u : Fin m) (j : Fin n) :
    (a.1 = u ∧ a.2.val < j.val + 1) ↔ (a.1 = u ∧ a.2.val < j.val) ∨ a = (u, j) := by
  rw [Prod.ext_iff, cell_lt_succ]; tauto

theorem runs_chunkA (st : State F) (u : Fin k0_t1_loop.trips) (j : Fin 14) :
    Runs (Ix := Ix) (Name := Name) (U := U) (Lvl := Lvl) defs 𝒱 c bd E M (chunkA M u (pCat (TR.read (st 12) u)) j (vacc st u j)) (SA st u j) (vacc st u (j + 1)) (SA st u (j + 1)) := by
  have h9 : T8.read (SA st u j 9) j = T8.read (st 9) j :=
    T8.read_blend _ _ _ j fun y h => by rw [h]; exact lt_irrefl _
  unfold chunkA
  refine Runs.load_bind 0 (by exact (TC.off (u, j))) (by exact (offC_eq u j)) (by exact (TC.inb (u, j))) ?_
  refine Runs.load_bind 1 (by exact (TC.off (u, j))) (by exact (offC_eq u j)) (by exact (TC.inb (u, j))) ?_
  refine Runs.load_bind 2 (by exact (T1.off j)) (by exact rfl) (by exact (T1.inb j)) ?_
  refine Runs.load_bind 9 (by exact (T8.off j)) (by exact rfl) (by exact (T8.inb j)) ?_
  refine Runs.load_bind 9 (by exact (T8.off j)) (by exact rfl) (by exact (T8.inb j)) ?_
  refine Runs.store_bind 9 (by exact (T8.off j)) (by exact rfl) ?_
  refine Runs.load_bind 14 (by exact (T3.off j)) (by exact rfl) (by exact (T3.inb j)) ?_
  refine Runs.store_bind 14 (by exact (T3.off j)) (by exact rfl) ?_
  refine Runs.load_bind 4 (by exact (TC.off (u, j))) (by exact (offC_eq u j)) (by exact (TC.inb (u, j))) ?_
  refine Runs.load_bind 15 (by exact (T3.off j)) (by exact rfl) (by exact (T3.inb j)) ?_
  refine Runs.store_bind 15 (by exact (T3.off j)) (by exact rfl) ?_
  refine Runs.done ?_ ?_
  · exact (vacc_succ st u j).symm
  · funext k
    fin_cases k
    case «9» =>
      refine (congrArg (fun o => VecWindow.put (SA st u j 9) (T8.off j) T8.size (pDg o (vdyr st u j) (vx st u j))) h9).trans ?_
      exact T8.put_blend _ _ (vdg st u) (st 9) j fun y => cell_lt_succ _ _
    case «14» => exact T3.put_blend _ _ (vxf st u) (st 14) j fun y => cell_lt_succ _ _
    case «15» => exact T3.put_blend _ _ (vt st u) (st 15) j fun y => cell_lt_succ _ _
    all_goals rfl

theorem runs_chunkB (st : State F) (u : Fin k0_t1_loop.trips) (k2 : FVec F S32x256 .f32) (j : Fin 14) :
    Runs (Ix := Ix) (Name := Name) (U := U) (Lvl := Lvl) defs 𝒱 c bd E M (chunkB M hM u k2 j (vmax st k2 j)) (SB st u k2 j) (vmax st k2 (j + 1)) (SB st u k2 (j + 1)) := by
  unfold chunkB
  refine Runs.load_bind 15 (by exact (T3.off j)) (by exact rfl) (by exact (T3.inb j)) ?_
  refine Runs.load_bind 14 (by exact (T3.off j)) (by exact rfl) (by exact (T3.inb j)) ?_
  refine Runs.load_bind 6 (by exact (TC.off (u, j))) (by exact (offC_eq u j)) (by exact (TC.inb (u, j))) ?_
  refine Runs.store_bind 6 (by exact (TC.off (u, j))) (by exact (offC_eq u j)) ?_
  refine Runs.load_bind 16 (by exact (T3.off j)) (by exact rfl) (by exact (T3.inb j)) ?_
  refine Runs.store_bind 16 (by exact (T3.off j)) (by exact rfl) ?_
  refine Runs.done ?_ ?_
  · exact (vmax_succ st k2 j).symm
  · funext k
    fin_cases k
    case «6» => exact TC.put_blend _ _ (fun k => pBf (vv st k2 k.2)) (st 6) (u, j) fun y => cell2_lt_succ _ _ _
    case «16» => exact T3.put_blend _ _ (fun j => pUp (vv st k2 j)) (st 16) j fun y => cell_lt_succ _ _
    all_goals rfl

theorem runs_chunkC (st : State F) (u : Fin k0_t1_loop.trips) (k2 : FVec F S32x256 .f32) (j : Fin 14) :
    Runs (Ix := Ix) (Name := Name) (U := U) (Lvl := Lvl) defs 𝒱 c bd E M (chunkC M hM u k2 j ⟨⟩) (SC st u k2 j) ⟨⟩ (SC st u k2 (j + 1)) := by
  unfold chunkC
  refine Runs.load_bind 16 (by exact (T3.off j)) (by exact rfl) (by exact (T3.inb j)) ?_
  refine Runs.load_bind 7 (by exact (TC.off (u, j))) (by exact (offC_eq u j)) (by exact (TC.inb (u, j))) ?_
  refine (Runs.store 7 (by exact (TC.off (u, j))) _ (by exact (offC_eq u j)) _ _ _ _).congr rfl ?_
  funext k
  fin_cases k
  case «7» => exact TC.put_blend _ _ (fun k => pCode (T3.read (st 16) k.2) k2) (st 7) (u, j) fun y => cell2_lt_succ _ _ _
  all_goals rfl

/-! ## A trip -/

section trip

variable (st : State F) (u : Fin k0_t1_loop.trips)

/-- `rstd² · c` of the trip's rows. -/
def tK : FVec F S32x128 .f32 := pK (TR.read (st 12) u) (vacc st u 14)
/-- The state before phase B. -/
def tripB : State F := Function.update (outA st u) 17 (pUp1 (tK st u))
/-- `rstd² · c` on a chunk. -/
def tK2 : FVec F S32x256 .f32 := pCat (pDown1 (pUp1 (tK st u)))
/-- The row maxima of `dtotal`. -/
def tRow : FVec F S32x128 .f32 := pRow (vmax (tripB st u) (tK2 st u) 14)
/-- The state before phase C. -/
def tripC : State F :=
  Function.update (Function.update (outB (tripB st u) u (tK2 st u))
    13 (blend (fun y => TR.cell y = u) (TR.tile fun _ => pScale (tRow st u)) (st 13)))
    18 (pUp1 (pInv (tRow st u)))
/-- The inverse scale on a chunk. -/
def tInv2 : FVec F S32x256 .f32 := pCat (pDown1 (pUp1 (pInv (tRow st u))))
/-- The state after a trip. -/
def tripOut : State F := outC (tripC st u) u (tInv2 st u)

theorem zero3 : ∀ a, (![0, 0, 0] : Fin 3 → ℕ) a = 0 := by intro a; fin_cases a <;> rfl
theorem zero2 : ∀ a, (![0, 0] : Fin 2 → ℕ) a = 0 := by intro a; fin_cases a <;> rfl

theorem runs_trip : Runs (Ix := Ix) (Name := Name) (U := U) (Lvl := Lvl) defs 𝒱 c bd E M (trip M hM u ⟨⟩) st ⟨⟩ (tripOut st u) := by
  unfold trip
  refine Runs.load_bind 12 (by exact TR.off u) (by exact k0_off2_eq u) (by exact TR.inb u) ?_
  have hA := Cert.Runs.Runs.steps (Ix := Ix) (Name := Name) (U := U) (Lvl := Lvl) (defs := defs) (𝒱 := 𝒱) (c := c) (bd := bd) (E := E) (M := M)
    (SA st u) (vacc st u) (runs_chunkA st u) 14 0 rfl
  rw [SA_zero, SA_end] at hA
  refine Runs.bind hA ?_
  refine Runs.load_full_bind 17 (by exact zero3) ?_
  refine Runs.store_full_bind 17 (by exact zero3) ?_
  refine Runs.load_full_bind 17 (by exact zero3) ?_
  have hB := Cert.Runs.Runs.steps (Ix := Ix) (Name := Name) (U := U) (Lvl := Lvl) (defs := defs) (𝒱 := 𝒱) (c := c) (bd := bd) (E := E) (M := M)
    (SB (tripB st u) u (tK2 st u)) (vmax (tripB st u) (tK2 st u)) (runs_chunkB (hM := hM) (tripB st u) u (tK2 st u)) 14 0 rfl
  rw [SB_zero, SB_end] at hB
  refine Runs.bind hB ?_
  refine Runs.load_bind 13 (by exact TR.off u) (by exact k0_off2_eq u) (by exact TR.inb u) ?_
  refine Runs.store_bind 13 (by exact TR.off u) (by exact k0_off2_eq u) ?_
  refine Runs.load_full_bind 18 (by exact zero3) ?_
  refine Runs.store_full_bind 18 (by exact zero3) ?_
  refine Runs.load_full_bind 18 (by exact zero3) ?_
  have hC := Cert.Runs.Runs.steps (Ix := Ix) (Name := Name) (U := U) (Lvl := Lvl) (defs := defs) (𝒱 := 𝒱) (c := c) (bd := bd) (E := E) (M := M)
    (SC (tripC st u) u (tInv2 st u)) (fun _ => PUnit.unit) (runs_chunkC (hM := hM) (tripC st u) u (tInv2 st u)) 14 0 rfl
  rw [SC_zero, SC_end] at hC
  have e : Function.update (Function.update (outB (tripB st u) u (tK2 st u))
      13 (VecWindow.put (outB (tripB st u) u (tK2 st u) 13) (TR.off u) TR.size (pScale (tRow st u)))) 18 (pUp1 (pInv (tRow st u))) = tripC st u := by
    exact congrArg (fun o => Function.update (Function.update (outB (tripB st u) u (tK2 st u)) 13 o) 18 (pUp1 (pInv (tRow st u))))
      (TR.put_eq (pScale (tRow st u)) (st 13) u)
  refine Eq.subst (motive := fun s => Runs (Ix := Ix) (Name := Name) (U := U) (Lvl := Lvl) defs 𝒱 c bd E M _ s _ _) e.symm ?_
  exact hC

end trip

/-! ## The body -/

/-- The line of row statistics of half `r` of the block at point `i`. -/
def line (i : grid0.Coords) (r : Fin 2) : Fin 384 :=
  ⟨32 * (i 0).val + 2 * (i 1).val + r.val, by
    have h0 : (i 0).val < 12 := (i 0).isLt
    have h1 : (i 1).val < 16 := (i 1).isLt
    have := r.isLt; omega⟩

section body

variable (i : grid0.Coords) (st : State F)

/-- The state after the first point's start. -/
def startOut : State F :=
  Function.update (Function.update st 9 pDg0) 10 (TL.tile fun n => pCopy (TS.read (st 3) n))

/-- The state after the last point's finish. -/
def finishOut : State F :=
  Function.update (Function.update st 5 (pDgamma (st 9))) 8 (TS.tile fun n => TL.read (st 11) n)

/-- The state before the trips. -/
def spreadOut : State F := Function.update st 12 (TH.tile fun r => pLine (TL.read (st 10) (line i r)))

/-- The state before trip `t`. -/
def loopS : ℕ → State F
  | 0 => st
  | t + 1 => if h : t < k0_t1_loop.trips then tripOut (loopS t) ⟨t, h⟩ else loopS t

theorem loopS_succ (t : Fin k0_t1_loop.trips) : loopS st (t.val + 1) = tripOut (loopS st t.val) t := by
  rw [loopS, dif_pos t.isLt]

/-- The state after the scales are gathered into lines. -/
def gatherOut : State F :=
  Function.update st 11 (blend (fun y => TL.cell y = line i 0 ∨ TL.cell y = line i 1)
    (TL.tile fun n => pCopy (pUnline (TH.read (st 13) ⟨n.val % 2, Nat.mod_lt _ two_pos⟩))) (st 11))

/-- The state before the trips of a point. -/
def preOut : State F := open Classical in spreadOut i (if cond1 i = 1#1 then startOut st else st)
/-- The state after the trips of a point. -/
def midOut : State F := loopS (preOut i st) k0_t1_loop.trips
/-- The state after a point. -/
def bodyOut : State F := open Classical in
  if k0_cond2 i = 1#1 then finishOut (gatherOut i (midOut i st)) else gatherOut i (midOut i st)

theorem runs_start : Runs (Ix := Ix) (Name := Name) (U := U) (Lvl := Lvl) defs 𝒱 c bd E M (start M) st ⟨⟩ (startOut st) := by
  unfold start
  refine Runs.load_full_bind 9 (by exact zero2) ?_
  refine Runs.store_full_bind 9 (by exact zero2) ?_
  have h := Cert.Runs.Runs.steps (Ix := Ix) (Name := Name) (U := U) (Lvl := Lvl) (defs := defs) (𝒱 := 𝒱) (c := c) (bd := bd) (E := E) (M := M) (f := copyIn M)
    (fun n => Function.update (Function.update st 9 pDg0) 10 (blend (fun y => (TL.cell y).val < n) (TL.tile fun n => pCopy (TS.read (st 3) n)) (st 10)))
    (fun _ => PUnit.unit) (fun n => by
      unfold copyIn
      refine Runs.load_bind 3 (by exact TS.off n) (by exact rfl) (by exact TS.inb n) ?_
      refine Runs.load_bind 10 (by exact TL.off n) (by exact rfl) (by exact TL.inb n) ?_
      refine (Runs.store 10 (by exact (TL.off n)) _ (by exact rfl) _ _ _ _).congr rfl ?_
      refine (Function.update_idem _ _ _).trans (congrArg _ ?_)
      exact TL.put_blend _ _ (fun n => pCopy (TS.read (st 3) n)) (st 10) n fun y => cell_lt_succ _ _) 384 0 rfl
  refine Eq.subst (motive := fun s => Runs (Ix := Ix) (Name := Name) (U := U) (Lvl := Lvl) defs 𝒱 c bd E M _ s _ _) ?_ (h.congr rfl ?_)
  · show Function.update _ _ _ = _
    rw [blend_false _ _ (fun y h => Nat.not_lt_zero _ h)]
    exact Function.update_eq_self 10 (Function.update st 9 pDg0)
  · show Function.update _ _ _ = _
    rw [blend_true _ _ (fun y => (TL.cell y).isLt)]
    rfl

theorem runs_finish : Runs (Ix := Ix) (Name := Name) (U := U) (Lvl := Lvl) defs 𝒱 c bd E M (finish M) st ⟨⟩ (finishOut st) := by
  unfold finish
  refine Runs.load_full_bind 9 (by exact zero2) ?_
  refine Runs.load_full_bind 5 (by exact zero2) ?_
  refine Runs.store_full_bind 5 (by exact zero2) ?_
  have h := Cert.Runs.Runs.steps (Ix := Ix) (Name := Name) (U := U) (Lvl := Lvl) (defs := defs) (𝒱 := 𝒱) (c := c) (bd := bd) (E := E) (M := M) (f := copyOut M)
    (fun n => Function.update (Function.update st 5 (pDgamma (st 9))) 8 (blend (fun y => (TS.cell y).val < n) (TS.tile fun n => TL.read (st 11) n) (st 8)))
    (fun _ => PUnit.unit) (fun n => by
      unfold copyOut
      refine Runs.load_bind 11 (by exact TL.off n) (by exact rfl) (by exact TL.inb n) ?_
      refine Runs.load_bind 8 (by exact TS.off n) (by exact rfl) (by exact TS.inb n) ?_
      refine (Runs.store 8 (by exact (TS.off n)) _ (by exact rfl) _ _ _ _).congr rfl ?_
      refine (Function.update_idem _ _ _).trans (congrArg _ ?_)
      exact TS.put_blend _ _ (fun n => TL.read (st 11) n) (st 8) n fun y => cell_lt_succ _ _) 384 0 rfl
  refine Eq.subst (motive := fun s => Runs (Ix := Ix) (Name := Name) (U := U) (Lvl := Lvl) defs 𝒱 c bd E M _ s _ _) ?_ (h.congr rfl ?_)
  · show Function.update _ _ _ = _
    rw [blend_false _ _ (fun y h => Nat.not_lt_zero _ h)]
    exact Function.update_eq_self 8 (Function.update st 5 (pDgamma (st 9)))
  · show Function.update _ _ _ = _
    rw [blend_true _ _ (fun y => (TS.cell y).isLt)]
    rfl

theorem runs_spread : Runs (Ix := Ix) (Name := Name) (U := U) (Lvl := Lvl) defs 𝒱 c bd E M (spread M i) st ⟨⟩ (spreadOut i st) := by
  unfold spread
  refine Runs.load_bind 10 (by exact TL.off (line i 0)) (by exact k0_off1_eq i 0) (by exact TL.inb _) ?_
  refine Runs.load_bind 12 (by exact TH.off 0) (by exact rfl) (by exact TH.inb 0) ?_
  refine Runs.store_bind 12 (by exact TH.off 0) (by exact rfl) ?_
  refine Runs.load_bind 10 (by exact TL.off (line i 1)) (by exact k0_off1_eq i 1) (by exact TL.inb _) ?_
  refine Runs.load_bind 12 (by exact TH.off 1) (by exact rfl) (by exact TH.inb 1) ?_
  refine (Runs.store 12 (by exact (TH.off 1)) _ (by exact rfl) _ _ _ _).congr rfl ?_
  refine (Function.update_idem _ _ _).trans (congrArg _ ?_)
  have h0 := TH.put_blend (fun _ => False) (fun y => TH.cell y = 0) (fun r => pLine (TL.read (st 10) (line i r))) (st 12) 0 (by simp)
  rw [blend_false _ _ (fun _ h => h)] at h0
  have h1 := TH.put_blend (fun y => TH.cell y = 0) (fun y => True) (fun r => pLine (TL.read (st 10) (line i r))) (st 12) 1
    (fun y => by have := Fin.exists_fin_two.1 ⟨TH.cell y, rfl⟩; simp only [true_iff]; exact this)
  rw [← h0, blend_true _ _ (fun _ => trivial)] at h1
  exact h1

theorem runs_front : Runs (Ix := Ix) (Name := Name) (U := U) (Lvl := Lvl) defs 𝒱 c bd E M (front M hM i) st
    ⟨BitVec.ofNat 32 (i 0).val, BitVec.ofNat 32 (i 1).val,
      Scalar.addi (Scalar.muli (BitVec.ofNat 32 (i 0).val) 32#32) (Scalar.muli (BitVec.ofNat 32 (i 1).val) 2#32),
      pUnline (TH.read (midOut i st 13) 0), TL.read (midOut i st 11) (line i 0)⟩ (midOut i st) := by
  have hrest : ∀ s : State F, Runs (Ix := Ix) (Name := Name) (U := U) (Lvl := Lvl) defs 𝒱 c bd E M (do
      spread M i
      Scf.Loop.for k0_t1_loop k0_t1_ok ⟨⟩ (trip M hM)
      let b ← ld M 13 ![0, 0] S128x128.size inb_S256x128_S128x128_0_0 h_S128x128
      let o ← ld M 11 (k0_off1 i 0#32) S1x128.size (k0_off1_inb i 0) h_S1x128
      pure (⟨BitVec.ofNat 32 (i 0).val, BitVec.ofNat 32 (i 1).val,
        Scalar.addi (Scalar.muli (BitVec.ofNat 32 (i 0).val) 32#32) (Scalar.muli (BitVec.ofNat 32 (i 1).val) 2#32), pUnline b, o⟩ :
          Σ' (_ : BitVec 32) (_ : BitVec 32) (_ : BitVec 32) (_ : FVec F S1x128 .f32), Vec F S1x128 .f32)) s
      ⟨BitVec.ofNat 32 (i 0).val, BitVec.ofNat 32 (i 1).val,
        Scalar.addi (Scalar.muli (BitVec.ofNat 32 (i 0).val) 32#32) (Scalar.muli (BitVec.ofNat 32 (i 1).val) 2#32),
        pUnline (TH.read (loopS (spreadOut i s) k0_t1_loop.trips 13) 0), TL.read (loopS (spreadOut i s) k0_t1_loop.trips 11) (line i 0)⟩
      (loopS (spreadOut i s) k0_t1_loop.trips) := by
    intro s
    refine Runs.bind (runs_spread i s) ?_
    have hL := Runs.loop (Ix := Ix) (Name := Name) (U := U) (Lvl := Lvl) (defs := defs) (𝒱 := 𝒱) (c := c) (bd := bd) (E := E) (M := M)
      _ _ _ k0_t1_ok (body := trip M hM) (loopS (spreadOut i s)) (fun t => by rw [loopS_succ]; exact runs_trip _ t)
    refine Runs.bind hL ?_
    refine Runs.load_bind 13 (by exact TH.off 0) (by exact rfl) (by exact TH.inb 0) ?_
    refine Runs.load_bind 11 (by exact TL.off (line i 0)) (by exact k0_off1_eq i 0) (by exact TL.inb _) ?_
    exact Runs.done rfl rfl
  unfold front midOut preOut
  by_cases h : cond1 i = 1#1
  · rw [dif_pos h, if_pos h]
    exact Runs.bind (runs_start st) (hrest _)
  · rw [dif_neg h, if_neg h]
    exact hrest _

theorem runs_body : Runs (Ix := Ix) (Name := Name) (U := U) (Lvl := Lvl) defs 𝒱 c bd E M (body M hM i) st ⟨⟩ (bodyOut i st) := by
  unfold body
  refine Runs.bind (runs_front i st) ?_
  refine Runs.store_bind 11 (by exact TL.off (line i 0)) (by exact k0_off1_eq i 0) ?_
  refine Runs.load_bind 13 (by exact TH.off 1) (by exact rfl) (by exact TH.inb 1) ?_
  refine Runs.load_bind 11 (by exact TL.off (line i 1)) (by exact k0_off1_eq i 1) (by exact TL.inb _) ?_
  refine Runs.store_bind 11 (by exact TL.off (line i 1)) (by exact k0_off1_eq i 1) ?_
  have hl0 : (⟨(line i 0).val % 2, Nat.mod_lt _ two_pos⟩ : Fin 2) = 0 := Fin.ext (by show (32 * (i 0).val + 2 * (i 1).val + 0) % 2 = 0; omega)
  have hl1 : (⟨(line i 1).val % 2, Nat.mod_lt _ two_pos⟩ : Fin 2) = 1 := Fin.ext (by show (32 * (i 0).val + 2 * (i 1).val + 1) % 2 = 1; omega)
  have h0 := TL.put_blend (fun _ => False) (fun y => TL.cell y = line i 0)
    (fun n => pCopy (pUnline (TH.read (midOut i st 13) ⟨n.val % 2, Nat.mod_lt _ two_pos⟩))) (midOut i st 11) (line i 0) (by simp)
  rw [blend_false _ _ (fun _ h => h)] at h0
  have h1 := TL.put_blend (fun y => TL.cell y = line i 0) (fun y => TL.cell y = line i 0 ∨ TL.cell y = line i 1)
    (fun n => pCopy (pUnline (TH.read (midOut i st 13) ⟨n.val % 2, Nat.mod_lt _ two_pos⟩))) (midOut i st 11) (line i 1) (fun y => Iff.rfl)
  rw [← h0, hl0, hl1] at h1
  have e : Function.update (Function.update (midOut i st) 11 (VecWindow.put (midOut i st 11) (TL.off (line i 0)) TL.size (pCopy (pUnline (TH.read (midOut i st 13) 0)))))
      11 (VecWindow.put (VecWindow.put (midOut i st 11) (TL.off (line i 0)) TL.size (pCopy (pUnline (TH.read (midOut i st 13) 0)))) (TL.off (line i 1)) TL.size
        (pCopy (pUnline (TH.read (midOut i st 13) 1)))) = gatherOut i (midOut i st) := by
    rw [Function.update_idem]; exact congrArg _ h1
  refine Eq.subst (motive := fun s => Runs (Ix := Ix) (Name := Name) (U := U) (Lvl := Lvl) defs 𝒱 c bd E M _ s _ _) e.symm ?_
  unfold bodyOut
  by_cases h : k0_cond2 i = 1#1
  · rw [dif_pos h, if_pos h]
    exact Runs.bind (runs_finish _) (Runs.ret _ _)
  · rw [dif_neg h, if_neg h]
    exact Runs.bind (Runs.ret _ _) (Runs.ret _ _)

end body

end Cert.KernelIdeal.Hand

end
-- ==== Proof.Effect.lean ====
/- The body's effect in closed form: each output block and each scratch buffer that a later point reads, as a function
   of the operand blocks alone. -/
module

public import proofs.«01_k».proof.Proof.Exec

@[expose] public section

noncomputable section

namespace Cert.KernelIdeal.Hand

open Cert.KernelIdeal Cert.KernelIdeal.Gen
open Idealize.ShloMosaic Idealize.ShloMosaic.TcCoe
open Idealize.SL Idealize.SL.RA Idealize.SL.Sem
open Cert.Runs

variable {F : FTy → Type} [FloatOps F] [Named F]

/-! ## What a trip computes from -/

/-- Two states agree on the buffers a trip computes from. -/
structure Same (a b : State F) : Prop where
  x : a 0 = b 0
  dy : a 1 = b 1
  g : a 2 = b 2
  dres : a 4 = b 4
  r : a 12 = b 12

section congr

variable {a b : State F} (h : Same a b) (u : Fin k0_t1_loop.trips)
include h

theorem vx_congr (j : Fin 14) : vx a u j = vx b u j := by unfold vx; rw [h.x]
theorem vdyr_congr (j : Fin 14) : vdyr a u j = vdyr b u j := by unfold vdyr; rw [h.dy, h.r]
theorem vh_congr (j : Fin 14) : vh a u j = vh b u j := by unfold vh; rw [vdyr_congr h, h.g]
theorem vacc_congr (n : ℕ) : vacc a u n = vacc b u n := by
  induction n with
  | zero => rfl
  | succ n ih => simp only [vacc]; rw [ih]; split
                 · rw [vh_congr h, vx_congr h]
                 · rfl
theorem vxf_congr (j : Fin 14) : vxf a u j = vxf b u j := by unfold vxf; rw [vx_congr h]
theorem vt_congr (j : Fin 14) : vt a u j = vt b u j := by unfold vt; rw [vh_congr h, h.dres]
theorem tK_congr : tK a u = tK b u := by unfold tK; rw [h.r, vacc_congr h]
theorem tK2_congr : tK2 a u = tK2 b u := by unfold tK2; rw [tK_congr h]

end congr

section closed

variable (st : State F) (u : Fin k0_t1_loop.trips)

/-- `dtotal` on a chunk. -/
def cV (j : Fin 14) : FVec F S32x256 .f32 := pV (vt st u j) (vxf st u j) (tK2 st u)

/-- The row maxima of `dtotal` over the chunks before `j`. -/
def cMax : ℕ → FVec F S32x128 .f32
  | 0 => pZero
  | j + 1 => if h : j < 14 then pMax (cMax j) (cV st u ⟨j, h⟩) else cMax j

/-- The row maxima of `dtotal`, one per row. -/
def cRow : FVec F S32x128 .f32 := pRow (cMax st u 14)

/-- The inverse scales on a chunk. -/
def cInv : FVec F S32x256 .f32 := pCat (pDown1 (pUp1 (pInv (cRow st u))))

theorem read3 (w : Fin 14 → FVec F S1x32x256 .f32) (j : Fin 14) :
    (T3.read (α := Elt F .f32) (T3.tile w) j : FVec F S1x32x256 .f32) = w j := T3.read_tile _ j

theorem vv_eq (k2 : FVec F S32x256 .f32) (j : Fin 14) : vv (tripB st u) k2 j = pV (vt st u j) (vxf st u j) k2 := by
  exact congrArg₂ (fun a b => pV a b k2) (read3 (vt st u) j) (read3 (vxf st u) j)

theorem vmax_eq (n : ℕ) : vmax (tripB st u) (tK2 st u) n = cMax st u n := by
  induction n with
  | zero => rfl
  | succ n ih => simp only [vmax, cMax]; rw [ih]; split
                 · rw [vv_eq]; rfl
                 · rfl

theorem tRow_eq : tRow st u = cRow st u := by unfold tRow cRow; rw [vmax_eq]
theorem tInv2_eq : tInv2 st u = cInv st u := by unfold tInv2 cInv; rw [tRow_eq]

variable {st} in
theorem cV_congr {st' : State F} (h : Same st st') (j : Fin 14) : cV st u j = cV st' u j := by
  unfold cV; rw [vt_congr h, vxf_congr h, tK2_congr h]
variable {st} in
theorem cMax_congr {st' : State F} (h : Same st st') (n : ℕ) : cMax st u n = cMax st' u n := by
  induction n with
  | zero => rfl
  | succ n ih => simp only [cMax]; rw [ih]; split
                 · rw [cV_congr u h]
                 · rfl
variable {st} in
theorem cRow_congr {st' : State F} (h : Same st st') : cRow st u = cRow st' u := by
  unfold cRow; rw [cMax_congr u h]
variable {st} in
theorem cInv_congr {st' : State F} (h : Same st st') : cInv st u = cInv st' u := by
  unfold cInv; rw [cRow_congr u h]

/-! ## What a trip leaves -/

/-- Contents overwritten through a tiling where the cell satisfies `P`: only those cells' windows count. -/
theorem blend_tile_congr {s : Shape} {K α : Type} (T : Tiling s K) {P : K → Prop}
    {w w' : K → ((a : Fin s.rank) → Fin (T.size a)) → α} (old : s.Idx → α) (h : ∀ k, P k → w k = w' k) :
    blend (fun y => P (T.cell y)) (T.tile w) old = blend (fun y => P (T.cell y)) (T.tile w') old := by
  funext y
  unfold blend
  by_cases hp : P (T.cell y)
  · rw [if_pos hp, if_pos hp]; exact congrFun (h _ hp) _
  · rw [if_neg hp, if_neg hp]

theorem trip_keep (k : Fin 19) (hk : k = 0 ∨ k = 1 ∨ k = 2 ∨ k = 3 ∨ k = 4 ∨ k = 5 ∨ k = 8 ∨ k = 10 ∨ k = 11 ∨ k = 12) :
    tripOut st u k = st k := by
  rcases hk with rfl | rfl | rfl | rfl | rfl | rfl | rfl | rfl | rfl | rfl <;> rfl

theorem trip_9 : tripOut st u 9 = T8.tile (vdg st u) := rfl

theorem trip_6 : tripOut st u 6 = blend (fun y => (TC.cell y).1 = u) (TC.tile fun k => pBf (cV st k.1 k.2)) (st 6) := by
  refine Eq.trans (b := blend (fun y => (TC.cell y).1 = u) (TC.tile fun k => pBf (vv (tripB st u) (tK2 st u) k.2)) (st 6)) rfl ?_
  refine blend_tile_congr TC (P := fun k => k.1 = u) _ fun k hk => ?_
  subst hk
  exact congrArg pBf (vv_eq st k.1 _ k.2)

theorem trip_7 : tripOut st u 7
    = blend (fun y => (TC.cell y).1 = u) (TC.tile fun k => pCode (pUp (cV st k.1 k.2)) (cInv st k.1)) (st 7) := by
  refine Eq.trans (b := blend (fun y => (TC.cell y).1 = u) (TC.tile fun k =>
    pCode (T3.read (T3.tile fun j => pUp (vv (tripB st u) (tK2 st u) j)) k.2) (tInv2 st u)) (st 7)) rfl ?_
  refine blend_tile_congr TC (P := fun k => k.1 = u) _ fun k hk => ?_
  subst hk
  refine congrArg₂ pCode ((read3 (fun j => pUp (vv (tripB st k.1) (tK2 st k.1) j)) k.2).trans ?_) (tInv2_eq st k.1)
  exact congrArg pUp (vv_eq st k.1 _ k.2)

theorem trip_13 : tripOut st u 13
    = blend (fun y => TR.cell y = u) (TR.tile fun u => pScale (cRow st u)) (st 13) := by
  refine Eq.trans (b := blend (fun y => TR.cell y = u) (TR.tile fun _ => pScale (tRow st u)) (st 13)) rfl ?_
  refine blend_tile_congr TR (P := fun k => k = u) _ fun k hk => ?_
  subst hk
  rw [tRow_eq]

/-! ## What the trips leave -/

/-- `dgamma`'s sum before trip `n`, from the sum `d` before the trips. -/
def dgLoop (d : S8x3584.Idx → Elt F .f32) : ℕ → S8x3584.Idx → Elt F .f32
  | 0 => d
  | n + 1 => if h : n < k0_t1_loop.trips then
      T8.tile fun j => pDg (T8.read (dgLoop d n) j) (vdyr st ⟨n, h⟩ j) (vx st ⟨n, h⟩ j)
    else dgLoop d n

variable {st} in
theorem dgLoop_congr {st' : State F} (h : Same st st') (d : S8x3584.Idx → Elt F .f32) (n : ℕ) :
    dgLoop st d n = dgLoop st' d n := by
  induction n with
  | zero => rfl
  | succ n ih => simp only [dgLoop]; rw [ih]; split
                 · congr 1; funext j; rw [vdyr_congr h, vx_congr h]
                 · rfl

/-- The state before trip `n`. -/
structure LoopAt (n : ℕ) (s : State F) : Prop where
  keep : ∀ k : Fin 19, (k = 0 ∨ k = 1 ∨ k = 2 ∨ k = 3 ∨ k = 4 ∨ k = 5 ∨ k = 8 ∨ k = 10 ∨ k = 11 ∨ k = 12) → s k = st k
  dg : s 9 = dgLoop st (st 9) n
  total : s 6 = blend (fun y => (TC.cell y).1.val < n) (TC.tile fun k => pBf (cV st k.1 k.2)) (st 6)
  codes : s 7 = blend (fun y => (TC.cell y).1.val < n) (TC.tile fun k => pCode (pUp (cV st k.1 k.2)) (cInv st k.1)) (st 7)
  scale : s 13 = blend (fun y => (TR.cell y).val < n) (TR.tile fun u => pScale (cRow st u)) (st 13)

theorem LoopAt.same {st s : State F} {n : ℕ} (h : LoopAt st n s) : Same s st :=
  ⟨h.keep 0 (by simp), h.keep 1 (by simp), h.keep 2 (by simp), h.keep 4 (by simp), h.keep 12 (by simp)⟩

/-- One more cell overwritten. -/
theorem blend_step {X α : Type} (c : X → Fin k0_t1_loop.trips) (n : Fin k0_t1_loop.trips) (new old : X → α) :
    blend (fun y => c y = n) new (blend (fun y => (c y).val < n.val) new old) = blend (fun y => (c y).val < n.val + 1) new old := by
  funext y
  unfold blend
  by_cases h : c y = n
  · rw [if_pos h, if_pos (show (c y).val < n.val + 1 by rw [h]; omega)]
  · rw [if_neg h]
    have : (c y).val ≠ n.val := fun e => h (Fin.ext e)
    by_cases h2 : (c y).val < n.val
    · rw [if_pos h2, if_pos (show (c y).val < n.val + 1 by omega)]
    · rw [if_neg h2, if_neg (show ¬ (c y).val < n.val + 1 by omega)]

/-- One more cell overwritten, its contents restated. -/
theorem blend_two {X α : Type} (c : X → Fin k0_t1_loop.trips) (n : Fin k0_t1_loop.trips) {new new' mid old : X → α}
    (hn : new' = new) (hm : mid = blend (fun y => (c y).val < n.val) new old) :
    blend (fun y => c y = n) new' mid = blend (fun y => (c y).val < n.val + 1) new old := by
  subst hn hm; exact blend_step c n _ old

theorem loopAt (n : ℕ) (hn : n ≤ k0_t1_loop.trips) : LoopAt st n (loopS st n) := by
  induction n with
  | zero =>
    exact ⟨fun _ _ => rfl, rfl, (blend_false _ _ fun y h => Nat.not_lt_zero _ h).symm,
      (blend_false _ _ fun y h => Nat.not_lt_zero _ h).symm, (blend_false _ _ fun y h => Nat.not_lt_zero _ h).symm⟩
  | succ n ih =>
    have hn' : n < k0_t1_loop.trips := hn
    have L := ih hn'.le
    have S := L.same
    rw [loopS_succ st ⟨n, hn'⟩]
    refine ⟨fun k hk => (trip_keep _ _ k hk).trans (L.keep k hk), ?_, ?_, ?_, ?_⟩
    · rw [trip_9, dgLoop, dif_pos hn']
      refine congrArg T8.tile (funext fun j => ?_)
      have e : T8.read (loopS st n 9) j = T8.read (dgLoop st (st 9) n) j := congrArg (fun x => T8.read x j) L.dg
      exact (congrArg (fun x => pDg x _ _) e).trans (congrArg₂ (pDg _) (vdyr_congr S _ j) (vx_congr S _ j))
    · refine (trip_6 (loopS st n) ⟨n, hn'⟩).trans (blend_two (fun y => (TC.cell y).1) ⟨n, hn'⟩ ?_ L.total)
      exact congrArg TC.tile (funext fun k => congrArg pBf (cV_congr k.1 S k.2))
    · refine (trip_7 (loopS st n) ⟨n, hn'⟩).trans (blend_two (fun y => (TC.cell y).1) ⟨n, hn'⟩ ?_ L.codes)
      exact congrArg TC.tile (funext fun k => congrArg₂ pCode (congrArg pUp (cV_congr k.1 S k.2)) (cInv_congr k.1 S))
    · refine (trip_13 (loopS st n) ⟨n, hn'⟩).trans (blend_two TR.cell ⟨n, hn'⟩ ?_ L.scale)
      exact congrArg TR.tile (funext fun k => congrArg pScale (cRow_congr k S))

end closed

/-! ## What a point leaves -/

/-- Contents nobody names. -/
def junk : State F := fun k _ => Classical.choice inferInstance

/-- The lines of row statistics. -/
def linesOf (r : S12x4096.Idx → Elt F .f32) : S384x128.Idx → Elt F .f32 := TL.tile fun n => pCopy (TS.read r n)

/-- What the trips of the point whose lines are `l 0`, `l 1` compute from, its operand blocks those of `st` and its
    row statistics `r`. -/
def inp (l : Fin 2 → Fin 384) (r : S12x4096.Idx → Elt F .f32) (st : State F) : State F :=
  Function.update st 12 (TH.tile fun h => pLine (TL.read (linesOf r) (l h)))

/-- The lines of scales a point gathers. -/
def scaleLine (s : State F) (h : Fin 2) : FVec F S1x128 .f32 :=
  pCopy (pUnline (TH.read (TR.tile fun u => pScale (cRow s u)) h))

variable (i : grid0.Coords) (st : State F) (r : S12x4096.Idx → Elt F .f32) (d : S8x3584.Idx → Elt F .f32)

/-- What the scratch buffers hold before a point: the row statistics' lines and `dgamma`'s sum, unless it is the first. -/
structure Entry : Prop where
  first : cond1 i = 1#1 → r = st 3 ∧ d = pDg0
  later : cond1 i ≠ 1#1 → st 10 = linesOf r ∧ st 9 = d

variable {i st r d} in
theorem pre_eq (h : Entry i st r d) :
    Same (preOut i st) (inp (line i) r st) ∧ preOut i st 9 = d ∧ preOut i st 10 = linesOf r
      ∧ preOut i st 11 = st 11 := by
  by_cases hc : cond1 i = 1#1
  · obtain ⟨rfl, rfl⟩ := h.first hc
    unfold preOut; rw [if_pos hc]
    exact ⟨⟨rfl, rfl, rfl, rfl, rfl⟩, rfl, rfl, rfl⟩
  · obtain ⟨e, rfl⟩ := h.later hc
    unfold preOut; rw [if_neg hc]
    refine ⟨⟨rfl, rfl, rfl, rfl, ?_⟩, rfl, e, rfl⟩
    show (TH.tile fun h => pLine (TL.read (st 10) (line i h))) = _
    rw [e]; rfl

/-- What a point leaves. -/
structure Exit (s : State F) : Prop where
  keep : ∀ k : Fin 19, (k = 0 ∨ k = 1 ∨ k = 2 ∨ k = 3 ∨ k = 4) → s k = st k
  dg : s 9 = dgLoop (inp (line i) r st) d k0_t1_loop.trips
  lines : s 10 = linesOf r
  total : s 6 = TC.tile fun k => pBf (cV (inp (line i) r st) k.1 k.2)
  codes : s 7 = TC.tile fun k => pCode (pUp (cV (inp (line i) r st) k.1 k.2)) (cInv (inp (line i) r st) k.1)
  scale : s 11 = blend (fun y => TL.cell y = line i 0 ∨ TL.cell y = line i 1)
    (TL.tile fun n => scaleLine (inp (line i) r st) ⟨n.val % 2, Nat.mod_lt _ two_pos⟩) (st 11)
  early : k0_cond2 i ≠ 1#1 → s 5 = st 5 ∧ s 8 = st 8
  last : k0_cond2 i = 1#1 → s 5 = pDgamma (s 9) ∧ s 8 = TS.tile fun n => TL.read (s 11) n

variable {i st r d} in
theorem exit_eq (h : Entry i st r d) : Exit i st r d (bodyOut i st) := by
  obtain ⟨S, e9, e10, e11⟩ := pre_eq h
  have L := loopAt (preOut i st) k0_t1_loop.trips le_rfl
  have k0 : ∀ k : Fin 19, (k = 0 ∨ k = 1 ∨ k = 2 ∨ k = 3 ∨ k = 4 ∨ k = 5 ∨ k = 8) → preOut i st k = st k := by
    intro k hk
    unfold preOut
    rcases hk with rfl | rfl | rfl | rfl | rfl | rfl | rfl <;> split <;> rfl
  have main : (∀ k : Fin 19, (k = 0 ∨ k = 1 ∨ k = 2 ∨ k = 3 ∨ k = 4 ∨ k = 5 ∨ k = 8) → gatherOut i (midOut i st) k = st k)
      ∧ gatherOut i (midOut i st) 9 = dgLoop (inp (line i) r st) d k0_t1_loop.trips
      ∧ gatherOut i (midOut i st) 10 = linesOf r
      ∧ gatherOut i (midOut i st) 6 = (TC.tile fun k => pBf (cV (inp (line i) r st) k.1 k.2))
      ∧ gatherOut i (midOut i st) 7 = (TC.tile fun k => pCode (pUp (cV (inp (line i) r st) k.1 k.2)) (cInv (inp (line i) r st) k.1))
      ∧ gatherOut i (midOut i st) 11 = blend (fun y => TL.cell y = line i 0 ∨ TL.cell y = line i 1)
        (TL.tile fun n => scaleLine (inp (line i) r st) ⟨n.val % 2, Nat.mod_lt _ two_pos⟩) (st 11) := by
    refine ⟨fun k hk => ?_, ?_, ?_, ?_, ?_, ?_⟩
    · refine Eq.trans ?_ ((L.keep k (by tauto)).trans (k0 k hk))
      rcases hk with rfl | rfl | rfl | rfl | rfl | rfl | rfl <;> rfl
    · refine Eq.trans (b := midOut i st 9) rfl (L.dg.trans ?_)
      rw [e9, dgLoop_congr S]
    · exact Eq.trans (b := midOut i st 10) rfl ((L.keep 10 (by simp)).trans e10)
    · refine Eq.trans (b := midOut i st 6) rfl (L.total.trans ?_)
      refine (blend_true _ _ fun y => (TC.cell y).1.isLt).trans ?_
      exact congrArg TC.tile (funext fun k => congrArg pBf (cV_congr k.1 S k.2))
    · refine Eq.trans (b := midOut i st 7) rfl (L.codes.trans ?_)
      refine (blend_true _ _ fun y => (TC.cell y).1.isLt).trans ?_
      exact congrArg TC.tile (funext fun k => congrArg₂ pCode (congrArg pUp (cV_congr k.1 S k.2)) (cInv_congr k.1 S))
    · have e13 : midOut i st 13 = TR.tile fun u => pScale (cRow (inp (line i) r st) u) := by
        refine L.scale.trans ?_
        refine (blend_true _ _ fun y => (TR.cell y).isLt).trans ?_
        exact congrArg TR.tile (funext fun k => congrArg pScale (cRow_congr k S))
      have e11' : midOut i st 11 = st 11 := (L.keep 11 (by simp)).trans e11
      refine Eq.trans (b := blend (fun y => TL.cell y = line i 0 ∨ TL.cell y = line i 1)
        (TL.tile fun n => pCopy (pUnline (TH.read (midOut i st 13) ⟨n.val % 2, Nat.mod_lt _ two_pos⟩))) (midOut i st 11)) rfl ?_
      refine congrArg₂ (fun (a : S384x128.Idx → Elt F .f32) b => blend (fun y => TL.cell y = line i 0 ∨ TL.cell y = line i 1) a b) ?_ e11'
      exact congrArg TL.tile (funext fun n => congrArg (fun x => pCopy (pUnline (TH.read x ⟨n.val % 2, Nat.mod_lt _ two_pos⟩))) e13)
  obtain ⟨mk, m9, m10, m6, m7, m11⟩ := main
  by_cases hc : k0_cond2 i = 1#1
  · have e : bodyOut i st = finishOut (gatherOut i (midOut i st)) := if_pos hc
    rw [e]
    refine ⟨fun k hk => ?_, m9, m10, m6, m7, m11, fun h => absurd hc h, fun _ => ⟨rfl, rfl⟩⟩
    refine Eq.trans ?_ (mk k (by tauto))
    rcases hk with rfl | rfl | rfl | rfl | rfl <;> rfl
  · have e : bodyOut i st = gatherOut i (midOut i st) := if_neg hc
    rw [e]
    exact ⟨fun k hk => mk k (by tauto), m9, m10, m6, m7, m11, fun _ => ⟨mk 5 (by simp), mk 8 (by simp)⟩, fun h => absurd h hc⟩

end Cert.KernelIdeal.Hand
-- ==== Proof.Launch.lean ====
/- The kernel's launch: what each grid point leaves in the windows and in the scratch buffers it carries over, and from
   it the run of the whole program. -/
module

public import proofs.«01_k».proof.Proof.Effect
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Runs

variable {F : FTy → Type} [FloatOps F] [Named F]

local notation "𝕄" => MT nD τ sig Unit (Elt F) ℕ (UR sig nD τ) ℕ

/-! ## Where a point lies -/

theorem first_iff : ∀ t : Fin cfg0.N, cond1 (grid0.coords t) = 1#1 ↔ t.val = 0 := by decide +kernel
theorem last_iff : ∀ t : Fin cfg0.N, k0_cond2 (grid0.coords t) = 1#1 ↔ t.val = 191 := by decide +kernel
theorem line_val : ∀ t : Fin cfg0.N, ∀ h : Fin 2, (line (grid0.coords t) h).val = 2 * t.val + h.val := by decide +kernel
theorem lt_points {n : ℕ} (h : n < 384) : n / 2 < cfg0.N := Nat.lt_of_lt_of_eq (by omega : n / 2 < 192) N_0.symm

/-! ## What the buffers hold -/

variable (m : (ℓ : Loc nD τ sig) → Buf (Elt F) ℓ) (c : Dev nD)

/-- The row statistics. -/
def stats : S12x4096.Idx → Elt F .f32 := iblk m c 3 ⟨0, Nat.lt_of_lt_of_eq (by omega : 0 < 192) N_0.symm⟩

/-- The operand blocks of a point. -/
def blocks (t : Fin cfg0.N) : State F :=
  Function.update (Function.update (Function.update (Function.update junk 0 (iblk m c 0 t)) 1 (iblk m c 1 t)) 2 (iblk m c 2 t)) 4 (iblk m c 4 t)

/-- What the trips of a point compute from. -/
def pin (t : Fin cfg0.N) : State F := inp (line (grid0.coords t)) (stats m c) (blocks m c t)

/-- `dgamma`'s sum before point `n`. -/
def dgAt : ℕ → S8x3584.Idx → Elt F .f32
  | 0 => pDg0
  | n + 1 => if h : n < cfg0.N then dgLoop (pin m c ⟨n, h⟩) (dgAt n) k0_t1_loop.trips else dgAt n

theorem dgAt_succ (t : Fin cfg0.N) : dgAt m c (t.val + 1) = dgLoop (pin m c t) (dgAt m c t.val) k0_t1_loop.trips := by
  rw [dgAt, dif_pos t.isLt]

/-- The scales, in lines. -/
def scales : S384x128.Idx → Elt F .f32 :=
  TL.tile fun n => scaleLine (pin m c ⟨n.val / 2, lt_points n.isLt⟩) ⟨n.val % 2, Nat.mod_lt _ two_pos⟩

/-- What the scratch buffers hold before point `n`. -/
structure Inv (n : ℕ) (st : State F) : Prop where
  sum : n ≠ 0 → st 10 = linesOf (stats m c) ∧ st 9 = dgAt m c n
  scale : ∀ y : S384x128.Idx, (y 0).val < 2 * n → st 11 y = scales m c y

/-- The buffers at a point: the windows' current ones, then the scratch. -/
def fam (t : Fin cfg0.N) : (k : Fin 19) → Memref sig .tc .vmem (sh k) (el k) := fun
  | 0 => st0_0 t | 1 => st0_1 t | 2 => st0_2 t | 3 => st0_3 t | 4 => st0_4 t | 5 => st0_5 t | 6 => st0_6 t | 7 => st0_7 t | 8 => st0_8 t
  | 9 => Memref.whole cc0_scratch0 | 10 => Memref.whole cc0_scratch1 | 11 => Memref.whole cc0_scratch2
  | 12 => Memref.whole cc0_scratch3 | 13 => Memref.whole cc0_scratch4 | 14 => Memref.whole cc0_scratch5
  | 15 => Memref.whole cc0_scratch6 | 16 => Memref.whole cc0_scratch7 | 17 => Memref.whole cc0_scratch8
  | 18 => Memref.whole cc0_scratch9
  | ⟨_ + 19, h⟩ => absurd h (Nat.not_lt.2 (Nat.le_add_left _ _))

theorem famWhole (t : Fin cfg0.N) : ∀ k, (fam t k).IsWhole := fun
  | 0 => hstage0_0 ((cfg0.slots t 0).cast nbuf0_0) | 1 => hstage0_1 ((cfg0.slots t 1).cast nbuf0_1)
  | 2 => hstage0_2 ((cfg0.slots t 2).cast nbuf0_2) | 3 => hstage0_3 ((cfg0.slots t 3).cast nbuf0_3)
  | 4 => hstage0_4 ((cfg0.slots t 4).cast nbuf0_4) | 5 => hstage0_5 ((cfg0.slots t 5).cast nbuf0_5)
  | 6 => hstage0_6 ((cfg0.slots t 6).cast nbuf0_6) | 7 => hstage0_7 ((cfg0.slots t 7).cast nbuf0_7)
  | 8 => hstage0_8 ((cfg0.slots t 8).cast nbuf0_8)
  | 9 => Memref.isWhole_whole _ | 10 => Memref.isWhole_whole _ | 11 => Memref.isWhole_whole _
  | 12 => Memref.isWhole_whole _ | 13 => Memref.isWhole_whole _ | 14 => Memref.isWhole_whole _
  | 15 => Memref.isWhole_whole _ | 16 => Memref.isWhole_whole _ | 17 => Memref.isWhole_whole _
  | 18 => Memref.isWhole_whole _
  | ⟨_ + 19, h⟩ => absurd h (Nat.not_lt.2 (Nat.le_add_left _ _))

/-- The scratch buffers, reading the state. -/
def scr (st : State F) : sProp 𝕄 :=
  iprop(owns (c : Thread nD τ) (Memref.whole cc0_scratch0) fullShare (st 9)
    ∗ owns (c : Thread nD τ) (Memref.whole cc0_scratch1) fullShare (st 10)
    ∗ owns (c : Thread nD τ) (Memref.whole cc0_scratch2) fullShare (st 11)
    ∗ owns (c : Thread nD τ) (Memref.whole cc0_scratch3) fullShare (st 12)
    ∗ owns (c : Thread nD τ) (Memref.whole cc0_scratch4) fullShare (st 13)
    ∗ owns (c : Thread nD τ) (Memref.whole cc0_scratch5) fullShare (st 14)
    ∗ owns (c : Thread nD τ) (Memref.whole cc0_scratch6) fullShare (st 15)
    ∗ owns (c : Thread nD τ) (Memref.whole cc0_scratch7) fullShare (st 16)
    ∗ owns (c : Thread nD τ) (Memref.whole cc0_scratch8) fullShare (st 17)
    ∗ owns (c : Thread nD τ) (Memref.whole cc0_scratch9) fullShare (st 18))

/-- A point's buffers: the windows', then the scratch. -/
theorem own_eq (t : Fin cfg0.N) (st : State F) :
    (own (Ix := Unit) (Name := ℕ) (U := UR sig nD τ) (Lvl := ℕ) c (fam t) st : sProp 𝕄)
      = iprop(owns (c : Thread nD τ) (st0_0 t) fullShare (st 0) ∗ owns (c : Thread nD τ) (st0_1 t) fullShare (st 1)
        ∗ owns (c : Thread nD τ) (st0_2 t) fullShare (st 2) ∗ owns (c : Thread nD τ) (st0_3 t) fullShare (st 3)
        ∗ owns (c : Thread nD τ) (st0_4 t) fullShare (st 4) ∗ owns (c : Thread nD τ) (st0_5 t) fullShare (st 5)
        ∗ owns (c : Thread nD τ) (st0_6 t) fullShare (st 6) ∗ owns (c : Thread nD τ) (st0_7 t) fullShare (st 7)
        ∗ owns (c : Thread nD τ) (st0_8 t) fullShare (st 8) ∗ scr c st) :=
  bigSep_univ_eq_bigSepL [(0 : Fin 19), 1, 2, 3, 4, 5, 6, 7, 8, 9, 10, 11, 12, 13, 14, 15, 16, 17, 18] (by decide) (by decide) _

/-- What the body leaves in each window at each point. -/
def left (w : Fin cfg0.W) (t : Fin cfg0.N) : (cfg0.win w).block.Idx → Elt F (cfg0.win w).elt :=
  match w with
  | 0 => iblk m c 0 t | 1 => iblk m c 1 t | 2 => iblk m c 2 t | 3 => iblk m c 3 t | 4 => iblk m c 4 t
  | 5 => (pDgamma (dgAt m c 192) : S1x3584.Idx → Elt F .f32)
  | 6 => (TC.tile fun k => pBf (cV (pin m c t) k.1 k.2) : S1x256x3584.Idx → Elt F .bf16)
  | 7 => (TC.tile fun k => pCode (pUp (cV (pin m c t) k.1 k.2)) (cInv (pin m c t) k.1) : S1x256x3584.Idx → Elt F .fp8e5m2)
  | 8 => (TS.tile fun n => TL.read (scales m c) n : S12x4096.Idx → Elt F .f32)
  | ⟨_ + 9, h⟩ => absurd h (Nat.not_lt.2 (Nat.le_add_left _ _))

/-- The launch's proof data. -/
def dat : Dat τ (Elt F) Unit ℕ (UR sig nD τ) ℕ cfg0 c where
  A w := V m c (Pipeline.arrRef spec0 w)
  after w t := left m c w t
  Φ t := iprop(∃ st : State F, ⌜Inv m c t.val st⌝ ∗ scr c st ∗ ∃ r, prngReg c r)
  q _ := fullShare
  owed _ := 0

/-! ## A point's step -/

variable {m c} in
/-- A point keeps the invariant and leaves what is claimed of it. -/
theorem step {t : Fin cfg0.N} {st : State F} (hI : Inv m c t.val st) (h0 : st 0 = iblk m c 0 t) (h1 : st 1 = iblk m c 1 t)
    (h2 : st 2 = iblk m c 2 t) (h3 : st 3 = iblk m c 3 t) (h4 : st 4 = iblk m c 4 t) :
    Exit (grid0.coords t) st (stats m c) (dgAt m c t.val) (bodyOut (grid0.coords t) st)
      ∧ Inv m c (t.val + 1) (bodyOut (grid0.coords t) st)
      ∧ Same (inp (line (grid0.coords t)) (stats m c) st) (pin m c t) := by
  have E : Entry (grid0.coords t) st (stats m c) (dgAt m c t.val) := by
    refine ⟨fun hc => ?_, fun hc => hI.sum fun e => hc ((first_iff t).2 e)⟩
    have e := (first_iff t).1 hc
    refine ⟨h3.symm, ?_⟩
    rw [e]; rfl
  have X := exit_eq E
  have S : Same (inp (line (grid0.coords t)) (stats m c) st) (pin m c t) := ⟨h0, h1, h2, h4, rfl⟩
  refine ⟨X, ⟨fun _ => ⟨X.lines, ?_⟩, fun y hy => ?_⟩, S⟩
  · rw [X.dg, dgAt_succ, dgLoop_congr S]
  · rw [X.scale]
    unfold blend
    have L := line_val t
    by_cases hl : TL.cell y = line (grid0.coords t) 0 ∨ TL.cell y = line (grid0.coords t) 1
    · rw [if_pos hl]
      have hy' : (y 0).val = 2 * t.val ∨ (y 0).val = 2 * t.val + 1 :=
        hl.imp (fun e => (congrArg Fin.val e).trans (L 0)) fun e => (congrArg Fin.val e).trans (L 1)
      have e : (⟨(TL.cell y).val / 2, lt_points (TL.cell y).isLt⟩ : Fin cfg0.N) = t :=
        Fin.ext (by show (y 0).val / 2 = t.val; omega)
      have es : scaleLine (inp (line (grid0.coords t)) (stats m c) st) ⟨(TL.cell y).val % 2, Nat.mod_lt _ two_pos⟩
          = scaleLine (pin m c ⟨(TL.cell y).val / 2, lt_points (TL.cell y).isLt⟩) ⟨(TL.cell y).val % 2, Nat.mod_lt _ two_pos⟩ := by
        rw [e]; unfold scaleLine
        exact congrArg (fun x => pCopy (pUnline (TH.read (TR.tile x) ⟨(TL.cell y).val % 2, Nat.mod_lt _ two_pos⟩)))
          (funext fun u => congrArg pScale (cRow_congr u S))
      exact congrFun es _
    · rw [if_neg hl]
      refine hI.scale y ?_
      have n0 : (y 0).val ≠ 2 * t.val := fun e => hl (.inl (Fin.ext (e.trans (L 0).symm)))
      have n1 : (y 0).val ≠ 2 * t.val + 1 := fun e => hl (.inr (Fin.ext (e.trans (L 1).symm)))
      omega

end Cert.KernelIdeal.Hand
-- ==== Proof.Run.lean ====
/- The kernel's run: the body meets the launch's proof data at every point, so the program terminates, faults nowhere,
   and leaves in each output array what the points wrote back. -/
module

public import proofs.«01_k».proof.Proof.Launch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.Runs

variable {F : FTy → Type} [FloatOps F] [Named F]

local notation "𝕄" => MT nD τ sig Unit (Elt F) ℕ (UR sig nD τ) ℕ

variable (m : (ℓ : Loc nD τ sig) → Buf (Elt F) ℓ) (c : Dev nD)

/-- What the windows' current buffers hold before the body, and a scratch state: a point's whole state. -/
def enter (t : Fin cfg0.N) (d : (w : Fin cfg0.W) → (cfg0.win w).block.Idx → Elt F (cfg0.win w).elt) (st : State F) : State F := fun
  | 0 => (dat m c).before 0 t (d 0) | 1 => (dat m c).before 1 t (d 1) | 2 => (dat m c).before 2 t (d 2) | 3 => (dat m c).before 3 t (d 3)
  | 4 => (dat m c).before 4 t (d 4) | 5 => (dat m c).before 5 t (d 5) | 6 => (dat m c).before 6 t (d 6) | 7 => (dat m c).before 7 t (d 7)
  | 8 => (dat m c).before 8 t (d 8)
  | 9 => st 9 | 10 => st 10 | 11 => st 11 | 12 => st 12 | 13 => st 13 | 14 => st 14 | 15 => st 15 | 16 => st 16 | 17 => st 17 | 18 => st 18
  | ⟨_ + 19, h⟩ => absurd h (Nat.not_lt.2 (Nat.le_add_left _ _))

variable (𝒱₀ : Variants)

/-- The body's run at a point, its buffers listed. -/
theorem run_at (t : Fin cfg0.N) (st : State F) (Q : PUnit → sProp 𝕄) :
    iprop((own c (fam t) st) ∗ (own c (fam t) (bodyOut (grid0.coords t) st) -∗ Q ⟨⟩))
      ⊢ wp frame (wpE defs₀ 𝒱₀ (c : Thread nD τ) none) Set.univ (defs₀ .tc cfg0.body (cfg0.bodyArgs t (cfg0.slots t))) Q := by
  have e : (defs₀ .tc cfg0.body (cfg0.bodyArgs t (cfg0.slots t)) : Prog (TpuEff nD τ sig (Elt F) Λ₀ .tc) PUnit)
      = body (fam t) (famWhole t) (grid0.coords t) := Eq.trans rfl (body_eq (M := fam t) (hM := famWhole t) (grid0.coords t))
  rw [e]
  exact runs_body (grid0.coords t) st Q

/-- The invariant before point `n`: the scratch buffers, and the core's generator register. -/
def phi (n : ℕ) : sProp 𝕄 := iprop(∃ st : State F, ⌜Inv m c n st⌝ ∗ scr c st ∗ ∃ r, prngReg c r)

/-- A point's windows as they are found. -/
def found (t : Fin cfg0.N) (d : (w : Fin cfg0.W) → (cfg0.win w).block.Idx → Elt F (cfg0.win w).elt) : sProp 𝕄 :=
  iprop(owns (c : Thread nD τ) (st0_0 t) fullShare ((dat m c).before 0 t (d 0)) ∗ owns (c : Thread nD τ) (st0_1 t) fullShare ((dat m c).before 1 t (d 1))
    ∗ owns (c : Thread nD τ) (st0_2 t) fullShare ((dat m c).before 2 t (d 2)) ∗ owns (c : Thread nD τ) (st0_3 t) fullShare ((dat m c).before 3 t (d 3))
    ∗ owns (c : Thread nD τ) (st0_4 t) fullShare ((dat m c).before 4 t (d 4)) ∗ owns (c : Thread nD τ) (st0_5 t) fullShare ((dat m c).before 5 t (d 5))
    ∗ owns (c : Thread nD τ) (st0_6 t) fullShare ((dat m c).before 6 t (d 6)) ∗ owns (c : Thread nD τ) (st0_7 t) fullShare ((dat m c).before 7 t (d 7))
    ∗ owns (c : Thread nD τ) (st0_8 t) fullShare ((dat m c).before 8 t (d 8)))

/-- A point's windows as they are left, the two that only the last point writes at `x5` and `x8`. -/
def leaves (t : Fin cfg0.N) (x5 : S1x3584.Idx → Elt F .f32) (x8 : S12x4096.Idx → Elt F .f32) : sProp 𝕄 :=
  iprop(owns (c : Thread nD τ) (st0_0 t) fullShare (left m c 0 t) ∗ owns (c : Thread nD τ) (st0_1 t) fullShare (left m c 1 t)
    ∗ owns (c : Thread nD τ) (st0_2 t) fullShare (left m c 2 t) ∗ owns (c : Thread nD τ) (st0_3 t) fullShare (left m c 3 t)
    ∗ owns (c : Thread nD τ) (st0_4 t) fullShare (left m c 4 t) ∗ owns (c : Thread nD τ) (st0_5 t) fullShare x5
    ∗ owns (c : Thread nD τ) (st0_6 t) fullShare (left m c 6 t) ∗ owns (c : Thread nD τ) (st0_7 t) fullShare (left m c 7 t)
    ∗ owns (c : Thread nD τ) (st0_8 t) fullShare x8)

/-- The blocks the body finds. -/
theorem found_in (t : Fin cfg0.N) (d : (w : Fin cfg0.W) → (cfg0.win w).block.Idx → Elt F (cfg0.win w).elt) (st : State F) :
    enter m c t d st 0 = iblk m c 0 t ∧ enter m c t d st 1 = iblk m c 1 t ∧ enter m c t d st 2 = iblk m c 2 t
      ∧ enter m c t d st 3 = iblk m c 3 t ∧ enter m c t d st 4 = iblk m c 4 t :=
  ⟨before0_0_of m (dat m c) rfl (fun _ => rfl) t (d 0), before0_1_of m (dat m c) rfl (fun _ => rfl) t (d 1),
    before0_2_of m (dat m c) rfl (fun _ => rfl) t (d 2), before0_3_of m (dat m c) rfl (fun _ => rfl) t (d 3),
    before0_4_of m (dat m c) rfl (fun _ => rfl) t (d 4)⟩

/-- A point: the windows as found and the invariant before it, to the windows as left and the invariant after it. -/
theorem point (t : Fin cfg0.N) (d : (w : Fin cfg0.W) → (cfg0.win w).block.Idx → Elt F (cfg0.win w).elt) :
    iprop(phi m c t.val ∗ found m c t d)
      ⊢ wp frame (wpE defs₀ 𝒱₀ (c : Thread nD τ) none) Set.univ (defs₀ .tc cfg0.body (cfg0.bodyArgs t (cfg0.slots t))) fun _ =>
        iprop(phi m c (t.val + 1) ∗ ∃ x5 x8, ⌜(t.val ≠ 191 → x5 = (dat m c).before 5 t (d 5) ∧ x8 = (dat m c).before 8 t (d 8))
          ∧ (t.val = 191 → x5 = left m c 5 t ∧ x8 = left m c 8 t)⌝ ∗ leaves m c t x5 x8) := by
  unfold phi found
  iintro ⟨⟨%st, %hI, Hs, Hp⟩, H⟩
  obtain ⟨h0, h1, h2, h3, h4⟩ := found_in m c t d st
  have hI' : Inv m c t.val (enter m c t d st) := ⟨hI.sum, hI.scale⟩
  obtain ⟨X, J, S⟩ := step hI' h0 h1 h2 h3 h4
  have run := run_at c 𝒱₀ t (enter m c t d st) (fun _ => iprop(phi m c (t.val + 1) ∗ ∃ x5 x8, ⌜(t.val ≠ 191 → x5 = (dat m c).before 5 t (d 5) ∧ x8 = (dat m c).before 8 t (d 8))
          ∧ (t.val = 191 → x5 = left m c 5 t ∧ x8 = left m c 8 t)⌝ ∗ leaves m c t x5 x8))
  have e0 : bodyOut (grid0.coords t) (enter m c t d st) 0 = left m c 0 t := (X.keep 0 (by simp)).trans h0
  have e1 : bodyOut (grid0.coords t) (enter m c t d st) 1 = left m c 1 t := (X.keep 1 (by simp)).trans h1
  have e2 : bodyOut (grid0.coords t) (enter m c t d st) 2 = left m c 2 t := (X.keep 2 (by simp)).trans h2
  have e3 : bodyOut (grid0.coords t) (enter m c t d st) 3 = left m c 3 t := (X.keep 3 (by simp)).trans h3
  have e4 : bodyOut (grid0.coords t) (enter m c t d st) 4 = left m c 4 t := (X.keep 4 (by simp)).trans h4
  have e6 : bodyOut (grid0.coords t) (enter m c t d st) 6 = left m c 6 t :=
    X.total.trans (congrArg TC.tile (funext fun k => congrArg pBf (cV_congr k.1 S k.2)))
  have e7 : bodyOut (grid0.coords t) (enter m c t d st) 7 = left m c 7 t :=
    X.codes.trans (congrArg TC.tile (funext fun k => congrArg₂ pCode (congrArg pUp (cV_congr k.1 S k.2)) (cInv_congr k.1 S)))
  have hE : t.val ≠ 191 → bodyOut (grid0.coords t) (enter m c t d st) 5 = (dat m c).before 5 t (d 5)
      ∧ bodyOut (grid0.coords t) (enter m c t d st) 8 = (dat m c).before 8 t (d 8) :=
    fun ne => X.early fun e => ne ((last_iff t).1 e)
  have hL : t.val = 191 → bodyOut (grid0.coords t) (enter m c t d st) 5 = left m c 5 t
      ∧ bodyOut (grid0.coords t) (enter m c t d st) 8 = left m c 8 t := by
    intro e
    obtain ⟨x5, x8⟩ := X.last ((last_iff t).2 e)
    refine ⟨x5.trans ?_, x8.trans ?_⟩
    · have := (J.sum (Nat.succ_ne_zero _)).2
      rw [e] at this
      exact congrArg pDgamma this
    · refine congrArg TS.tile (funext fun n => congrArg (fun x => TL.read x n) (funext fun y => J.scale y ?_))
      have : (y 0).val < 384 := (y 0).isLt
      omega
  rw [own_eq, own_eq, e0, e1, e2, e3, e4, e6, e7] at run
  iapply run
  icases H with ⟨H0, H1, H2, H3, H4, H5, H6, H7, H8⟩
  isplitl [H0 H1 H2 H3 H4 H5 H6 H7 H8 Hs]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact Hs
  · iintro ⟨K0, K1, K2, K3, K4, K5, K6, K7, K8, Ks⟩
    unfold phi
    isplitl [Ks Hp]
    · iexists (bodyOut (grid0.coords t) (enter m c t d st))
      isplitr
      · ipureintro; exact J
      · isplitl [Ks]
        · iexact Ks
        · iexact Hp
    · iexists (bodyOut (grid0.coords t) (enter m c t d st) 5)
      iexists (bodyOut (grid0.coords t) (enter m c t d st) 8)
      isplitr
      · ipureintro; exact ⟨hE, hL⟩
      · unfold leaves
        isplitl [K0]; · iexact K0
        isplitl [K1]; · iexact K1
        isplitl [K2]; · iexact K2
        isplitl [K3]; · iexact K3
        isplitl [K4]; · iexact K4
        isplitl [K5]; · iexact K5
        isplitl [K6]; · iexact K6
        isplitl [K7]; · iexact K7
        iexact K8

/-- A point's windows as the body hands them back, the two that only the last point writes as `P5` and `P8` say. -/
def handed (t : Fin cfg0.N) (P5 P8 : sProp 𝕄) : Fin cfg0.W → sProp 𝕄 := fun
  | 0 => owns (c : Thread nD τ) (st0_0 t) fullShare (left m c 0 t) | 1 => owns (c : Thread nD τ) (st0_1 t) fullShare (left m c 1 t)
  | 2 => owns (c : Thread nD τ) (st0_2 t) fullShare (left m c 2 t) | 3 => owns (c : Thread nD τ) (st0_3 t) fullShare (left m c 3 t)
  | 4 => owns (c : Thread nD τ) (st0_4 t) fullShare (left m c 4 t) | 5 => P5
  | 6 => owns (c : Thread nD τ) (st0_6 t) fullShare (left m c 6 t) | 7 => owns (c : Thread nD τ) (st0_7 t) fullShare (left m c 7 t)
  | 8 => P8
  | ⟨_ + 9, h⟩ => absurd h (Nat.not_lt.2 (Nat.le_add_left _ _))

/-- A window that the body works on at every point is handed back as it is left. -/
theorem busy (w : Fin cfg0.W) (t : Fin cfg0.N) (h : cfg0.idle w (cfg0.grid.coords t) = false) :
    owns c ((cfg0.win w).stage (cfg0.slots t w)) fullShare ((dat m c).after w t) ⊢
      (match cfg0.idle w (cfg0.grid.coords t) with
      | true => (match (cfg0.win w).flush t with
        | false => iprop(∃ d, owns c ((cfg0.win w).stage (cfg0.slots t w)) fullShare ((dat m c).before w t d))
        | true => owns c ((cfg0.win w).stage (cfg0.slots t w)) fullShare ((dat m c).after w t))
      | false => owns c ((cfg0.win w).stage (cfg0.slots t w)) fullShare ((dat m c).after w t) : sProp 𝕄) := by
  rw [h]

/-- The body meets its obligation once it hands back the two windows of the last point as they must be. -/
theorem hand (t : Fin cfg0.N) (P5 P8 : sProp 𝕄)
    (h5 : P5 ⊢ (match cfg0.idle 5 (cfg0.grid.coords t) with
      | true => (match (cfg0.win 5).flush t with
        | false => iprop(∃ d, owns (c : Thread nD τ) (st0_5 t) fullShare ((dat m c).before 5 t d))
        | true => owns (c : Thread nD τ) (st0_5 t) fullShare ((dat m c).after 5 t))
      | false => owns (c : Thread nD τ) (st0_5 t) fullShare ((dat m c).after 5 t)))
    (h8 : P8 ⊢ (match cfg0.idle 8 (cfg0.grid.coords t) with
      | true => (match (cfg0.win 8).flush t with
        | false => iprop(∃ d, owns (c : Thread nD τ) (st0_8 t) fullShare ((dat m c).before 8 t d))
        | true => owns (c : Thread nD τ) (st0_8 t) fullShare ((dat m c).after 8 t))
      | false => owns (c : Thread nD τ) (st0_8 t) fullShare ((dat m c).after 8 t)))
    (h : ∀ d, iprop(phi m c t.val ∗ found m c t d)
      ⊢ wp frame (wpE defs₀ 𝒱₀ (c : Thread nD τ) none) Set.univ (defs₀ .tc cfg0.body (cfg0.bodyArgs t (cfg0.slots t))) fun _ =>
        iprop(phi m c (t.val + 1) ∗ bigSep Finset.univ (handed m c t P5 P8))) :
    iprop((dat m c).Φ t.castSucc ∗ (dat m c).owesAt () t.castSucc
        ∗ bigSep Finset.univ fun w : Fin cfg0.W => iprop(∃ d, owns c ((cfg0.win w).stage (cfg0.slots t w)) fullShare ((dat m c).before w t d)))
      ⊢ wp frame (wpE defs₀ 𝒱₀ c none) Set.univ (defs₀ .tc cfg0.body (cfg0.bodyArgs t (cfg0.slots t))) fun _ =>
          iprop((dat m c).Φ t.succ ∗ (dat m c).owesAt () t.succ
            ∗ bigSep Finset.univ fun w : Fin cfg0.W =>
                  match cfg0.idle w (cfg0.grid.coords t) with
                  | true =>
                    match (cfg0.win w).flush t with
                    | false => iprop(∃ d, owns c ((cfg0.win w).stage (cfg0.slots t w)) fullShare ((dat m c).before w t d))
                    | true => owns c ((cfg0.win w).stage (cfg0.slots t w)) fullShare ((dat m c).after w t)
                  | false => owns c ((cfg0.win w).stage (cfg0.slots t w)) fullShare ((dat m c).after w t)) := by
  have e : (dat m c).Φ t.castSucc = phi m c t.val := rfl
  have e' : (dat m c).Φ t.succ = phi m c (t.val + 1) := rfl
  rw [e, e']
  refine BIBase.Entails.trans (Q := iprop((∃ d, phi m c t.val ∗ found m c t d) ∗ (dat m c).owesAt () t.castSucc)) ?_ ?_
  · rw [bigSep_W0]
    unfold found
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    isplitr [Ho]
    · iexists (fun | 0 => d0 | 1 => d1 | 2 => d2 | 3 => d3 | 4 => d4 | 5 => d5 | 6 => d6 | 7 => d7 | 8 => d8
                   | ⟨_ + 9, h⟩ => absurd h (Nat.not_lt.2 (Nat.le_add_left _ _)))
      isplitl [HP]; · iexact HP
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iexact Ho
  · refine BIBase.Entails.trans (sep_mono_left (sProp.exists_elim h)) ((wp_frame_r frame (wpE defs₀ 𝒱₀ (c : Thread nD τ) none) Set.univ).trans
      (wp_mono frame (wpE defs₀ 𝒱₀ (c : Thread nD τ) none) Set.univ fun _ => ?_))
    refine BIBase.Entails.trans (Q := iprop(phi m c (t.val + 1) ∗ (dat m c).owesAt () t.succ ∗ bigSep Finset.univ (handed m c t P5 P8))) ?_
      (sep_mono BIBase.Entails.rfl (sep_mono BIBase.Entails.rfl (Idealize.SL.BI.bigSep_mono fun w _ => ?_)))
    · iintro ⟨⟨HP, H⟩, Ho⟩
      isplitl [HP]; · iexact HP
      isplitl [Ho]; · iexact Ho
      iexact H
    · match w with
      | 0 => exact busy m c 0 t rfl
      | 1 => exact busy m c 1 t rfl
      | 2 => exact busy m c 2 t rfl
      | 3 => exact busy m c 3 t rfl
      | 4 => exact busy m c 4 t rfl
      | 5 => exact h5
      | 6 => exact busy m c 6 t rfl
      | 7 => exact busy m c 7 t rfl
      | 8 => exact h8

/-- The body meets the launch's proof data at every point. -/
theorem hbody : BodyObligationLoose (dat m c) defs₀ 𝒱₀ () Set.univ := by
  refine BodyObligation.loose _ ?_
  intro t
  by_cases hl : t.val = 191
  · have hc := (last_iff t).2 hl
    have i5 : cfg0.idle 5 (cfg0.grid.coords t) = false := by show (!(k0_cond2 (grid0.coords t) == 1#1)) = false; rw [hc]; rfl
    have i8 : cfg0.idle 8 (cfg0.grid.coords t) = false := by show (!(k0_cond2 (grid0.coords t) == 1#1)) = false; rw [hc]; rfl
    refine hand m c 𝒱₀ t (owns (c : Thread nD τ) (st0_5 t) fullShare (left m c 5 t)) (owns (c : Thread nD τ) (st0_8 t) fullShare (left m c 8 t))
      (by rw [i5]; exact BIBase.Entails.rfl) (by rw [i8]; exact BIBase.Entails.rfl) fun d => ?_
    refine BIBase.Entails.trans (point m c 𝒱₀ t d) (wp_mono frame (wpE defs₀ 𝒱₀ (c : Thread nD τ) none) Set.univ fun _ => ?_)
    rw [bigSep_W0]
    unfold leaves
    iintro ⟨HP, ⟨%x5, %x8, %hx, HL⟩⟩
    obtain ⟨rfl, rfl⟩ := hx.2 hl
    isplitl [HP]; · iexact HP
    iexact HL
  · have hc : k0_cond2 (grid0.coords t) ≠ 1#1 := fun e => hl ((last_iff t).1 e)
    have i5 : cfg0.idle 5 (cfg0.grid.coords t) = true := by
      show (!(k0_cond2 (grid0.coords t) == 1#1)) = true; rw [beq_false_of_ne hc]; rfl
    have i8 : cfg0.idle 8 (cfg0.grid.coords t) = true := by
      show (!(k0_cond2 (grid0.coords t) == 1#1)) = true; rw [beq_false_of_ne hc]; rfl
    have ht : t.val < 192 := Nat.lt_of_lt_of_eq t.isLt N_0
    have f5 : (cfg0.win 5).flush t = false := Bool.eq_false_iff.2 fun e => hl (by have := (flush0_5 t).1 e; omega)
    have f8 : (cfg0.win 8).flush t = false := Bool.eq_false_iff.2 fun e => hl (by have := (flush0_8 t).1 e; omega)
    refine hand m c 𝒱₀ t iprop(∃ d, owns (c : Thread nD τ) (st0_5 t) fullShare ((dat m c).before 5 t d))
      iprop(∃ d, owns (c : Thread nD τ) (st0_8 t) fullShare ((dat m c).before 8 t d))
      (by rw [i5, f5]) (by rw [i8, f8]) fun d => ?_
    refine BIBase.Entails.trans (point m c 𝒱₀ t d) (wp_mono frame (wpE defs₀ 𝒱₀ (c : Thread nD τ) none) Set.univ fun _ => ?_)
    rw [bigSep_W0]
    unfold leaves handed
    iintro ⟨HP, ⟨%x5, %x8, %hx, ⟨K0, K1, K2, K3, K4, K5, K6, K7, K8⟩⟩⟩
    obtain ⟨rfl, rfl⟩ := hx.1 hl
    isplitl [HP]; · iexact HP
    isplitl [K0]; · iexact K0
    isplitl [K1]; · iexact K1
    isplitl [K2]; · iexact K2
    isplitl [K3]; · iexact K3
    isplitl [K4]; · iexact K4
    isplitl [K5]; · iexists (d 5); iexact K5
    isplitl [K6]; · iexact K6
    isplitl [K7]; · iexact K7
    iexists (d 8); iexact K8

/-! ## The run -/

/-- A state by its scratch buffers. -/
def ofScratch (f0 : (sh 9).Idx → Elt F (el 9)) (f1 : (sh 10).Idx → Elt F (el 10)) (f2 : (sh 11).Idx → Elt F (el 11)) (f3 : (sh 12).Idx → Elt F (el 12))
    (f4 : (sh 13).Idx → Elt F (el 13)) (f5 : (sh 14).Idx → Elt F (el 14)) (f6 : (sh 15).Idx → Elt F (el 15)) (f7 : (sh 16).Idx → Elt F (el 16))
    (f8 : (sh 17).Idx → Elt F (el 17)) (f9 : (sh 18).Idx → Elt F (el 18)) : State F := fun
  | 0 => junk 0 | 1 => junk 1 | 2 => junk 2 | 3 => junk 3 | 4 => junk 4 | 5 => junk 5 | 6 => junk 6 | 7 => junk 7 | 8 => junk 8
  | 9 => f0 | 10 => f1 | 11 => f2 | 12 => f3 | 13 => f4 | 14 => f5 | 15 => f6 | 16 => f7 | 17 => f8 | 18 => f9
  | ⟨_ + 19, h⟩ => absurd h (Nat.not_lt.2 (Nat.le_add_left _ _))

/-- The scratch buffers at any contents, and the generator register: the invariant before the first point. -/
theorem phi_in : (Pipeline.ΦA spec0 c : sProp 𝕄) ⊢ phi m c 0 := by
  unfold Pipeline.ΦA phi
  rw [scopedRest0_eq]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩, Hp⟩
  iexists (ofScratch f0 f1 f2 f3 f4 f5 f6 f7 f8 f9)
  isplitr
  · ipureintro; exact ⟨fun h => absurd rfl h, fun y h => absurd h (Nat.not_lt_zero _)⟩
  isplitl [H0 H1 H2 H3 H4 H5 H6 H7 H8 H9]
  · unfold scr
    simp only [owns_whole]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iexact Hp

/-- The invariant forgotten. -/
theorem phi_out (n : ℕ) : phi m c n ⊢ (Pipeline.ΦA spec0 c : sProp 𝕄) := by
  unfold Pipeline.ΦA phi scr
  rw [scopedRest0_eq]
  simp only [owns_whole]
  iintro ⟨%st, %hI, ⟨H0, H1, H2, H3, H4, H5, H6, H7, H8, H9⟩, Hp⟩
  isplitl [H0 H1 H2 H3 H4 H5 H6 H7 H8 H9]
  · isplitl [H0]; · iexists (st 9); iexact H0
    isplitl [H1]; · iexists (st 10); iexact H1
    isplitl [H2]; · iexists (st 11); iexact H2
    isplitl [H3]; · iexists (st 12); iexact H3
    isplitl [H4]; · iexists (st 13); iexact H4
    isplitl [H5]; · iexists (st 14); iexact H5
    isplitl [H6]; · iexists (st 15); iexact H6
    isplitl [H7]; · iexists (st 16); iexact H7
    isplitl [H8]; · iexists (st 17); iexact H8
    iexists (st 18); iexact H9
  · iexact Hp

/-- The run: it terminates, faults nowhere, leaves each array at what the points wrote back and every counter at zero. -/
theorem run (ρ : Dev nD → PrngReg) :
    θ_run defs (onTc (τ := τ) (main (F := F))) (s₀ m ρ) (fun r => Pipeline.FramePost cfgs (fun _ c => dat m c) 0 (V m) r ∧ r.2.sem = fun _ => 0) :=
  Pipeline.θ_run_frame_track cfgs (fun _ c => dat m c) 0 launch0 defs₀ Variants.none m ρ main
    (hbody := fun c => hbody m c Variants.none) (hshare := fun c => (dat m c).share_full fun _ => rfl) (howed := fun _ _ => rfl)
    (V := V m) (hmain := hmain m Variants.none) (hA := fun _ _ => rfl) (hin := fun c => phi_in m c) (hout := fun c => phi_out m c _)
    (Q' := _) (hQ' := fun _ h => h)

/-- The argument arrays end unchanged and every counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 0).trans (((dat m c).arrAt_in 0 rfl _).trans (V_main_arg0 m c)),
      ((h.1 c).1 1).trans (((dat m c).arrAt_in 1 rfl _).trans (V_main_arg1 m c)),
      ((h.1 c).2 main_arg2 (Pipeline.mem_restRefs_of main_arg2 (by decide) (by decide))).trans (V_main_arg2 m c),
      ((h.1 c).1 3).trans (((dat m c).arrAt_in 3 rfl _).trans (V_main_arg3 m c)),
      ((h.1 c).1 4).trans (((dat m c).arrAt_in 4 rfl _).trans (V_main_arg4 m c))⟩, h.2⟩) (run m ρ)

end Cert.KernelIdeal.Hand
-- ==== Proof.Frames.lean ====
/- The frames: each program runs to its end without a fault, leaves its arguments as they were and its counters at
   zero; and the named constant stands for what was printed. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Run

@[expose] public section

noncomputable section

open Idealize.ShloMosaic Idealize.ShloMosaic.TcCoe Idealize.SL.Sem

namespace Cert.Frames

/-- At the bits the named constant is the bits printed. -/
local instance : Named Bits := ⟨fun _ _ {φ} b => FloatOps.ofBits (F := Bits) φ b⟩

/-- What the run of the idealized program says when it is read over the bits. -/
def AtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

set_option maxHeartbeats 0 in
/-- The two programs differ in the named constant alone, which over the bits is what was printed: the frames are one statement. -/
theorem atBits_eq : AtBits = Cert.quiescent_Kernel (hKernel := Cert.Kernel.Gen.facts) := by chain_rfl

/-- The printed kernel's frame. -/
theorem frame_p : Cert.quiescent_Kernel (hKernel := Cert.Kernel.Gen.facts) :=
  atBits_eq.mp fun m g _ => Cert.KernelIdeal.Hand.frame (F := Bits) m g

/-- The idealized kernel's frame. -/
theorem frame_pi : Cert.quiescent_KernelIdeal (hKernelIdeal := Cert.KernelIdeal.Gen.facts) :=
  fun m g _ => Cert.KernelIdeal.Hand.frame (F := Ideal) m g

/-- The reference's frame. -/
theorem frame_ri : Cert.quiescent_ReferenceIdeal (hReferenceIdeal := Cert.ReferenceIdeal.Gen.facts) :=
  fun m g _ => Cert.ReferenceIdeal.Gen.frame m g

/-- The named constant denotes 1/3584. -/
theorem preserves : Cert.preserves_Kernel_KernelIdeal :=
  IdealRules.named_const.statement Cert.KernelIdeal.κ "inv_d" .f32 0x39924925#32 ((1 / 3584 : ℝ) : EReal) rfl

end Cert.Frames
-- ==== Proof.Payload.lean ====
/- The kernel's operations over the extended reals, each at an index. -/
module

public import proofs.«01_k».proof.Proof.Body
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Pointwise
open Idealize.SL Idealize.SL.RA Idealize.SL.Sem

theorem pX_at (x : Vec Ideal S1x32x256 .bf16) (i : Fin 32) (l : Fin 256) : pX (F := Ideal) x (ix2 i l) = x (ix3 0 i l) := by
  pointwise [pX]

theorem pUp_at (v : FVec Ideal S32x256 .f32) (i : Fin 32) (l : Fin 256) : pUp v (ix3 0 i l) = v (ix2 i l) := by
  pointwise [pUp]

theorem pDown_at (v : Vec Ideal S1x32x256 .f32) (i : Fin 32) (l : Fin 256) : pDown v (ix2 i l) = v (ix3 0 i l) := by
  pointwise [pDown]

theorem pDown1_pUp1 (v : FVec Ideal S32x128 .f32) : pDown1 (pUp1 v) = v := by
  funext j
  pointwise [pDown1, pUp1]

theorem pCat_at (r : FVec Ideal S32x128 .f32) (i : Fin 32) (l : Fin 256) :
    pCat r (ix2 i l) = r (ix2 i ⟨l.val % 128, Nat.mod_lt _ (by decide)⟩) := by
  pointwise [pCat]
  split
  · next h => exact congrArg r (congrArg (ix2 i) (Fin.ext (Nat.mod_eq_of_lt h).symm))
  · next h => exact congrArg r (congrArg (ix2 i) (Fin.ext (show l.val - 128 = l.val % 128 by omega)))

theorem pH_at (v : FVec Ideal S32x256 .f32) (g : Vec Ideal S1x256 .f32) (i : Fin 32) (l : Fin 256) :
    pH v g (ix2 i l) = v (ix2 i l) * g (ix2 0 l) := by
  pointwise [pH]

theorem pDg_at (old : Vec Ideal S8x256 .f32) (v : FVec Ideal S32x256 .f32) (x : Vec Ideal S1x32x256 .bf16) (q : Fin 8) (l : Fin 256) :
    pDg old v x (ix2 q l) = old (ix2 q l) + ∑ k : Fin 4, v (ix2 ⟨k.val * 8 + q.val, by omega⟩ l) * x (ix3 0 ⟨k.val * 8 + q.val, by omega⟩ l) := by
  pointwise [pDg, pX]

theorem pAcc_at (acc : FVec Ideal S32x128 .f32) (h : FVec Ideal S32x256 .f32) (x : Vec Ideal S1x32x256 .bf16) (i : Fin 32) (l : Fin 128) :
    pAcc acc h x (ix2 i l) = acc (ix2 i l) + (h (ix2 i ⟨l.val, by omega⟩) * x (ix3 0 i ⟨l.val, by omega⟩)
      + h (ix2 i ⟨128 + l.val, by omega⟩) * x (ix3 0 i ⟨128 + l.val, by omega⟩)) := by
  pointwise [pAcc, pLo, pHi, pX]

theorem pZero_at (i : Fin 32) (l : Fin 128) : pZero (F := Ideal) (ix2 i l) = 0 := by
  pointwise [pZero]

/-- The named constant. -/
theorem inv_d : Named.named (F := Ideal) κ "inv_d" (φ := .f32) 0x39924925#32 = ((1 / 3584 : ℝ) : EReal) :=
  IdealRules.named_const.ideal_named_scalar _ _ _ _ rfl

theorem pK_at (r acc : FVec Ideal S32x128 .f32) (i : Fin 32) (l : Fin 128) :
    pK r acc (ix2 i l) = r (ix2 i l) * r (ix2 i l) * ((∑ k : Fin 128, acc (ix2 i k)) * ((1 / 3584 : ℝ) : EReal)) := by
  pointwise [pK, inv_d]

theorem pV_at (t x : Vec Ideal S1x32x256 .f32) (k2 : FVec Ideal S32x256 .f32) (i : Fin 32) (l : Fin 256) :
    pV t x k2 (ix2 i l) = t (ix3 0 i l) - x (ix3 0 i l) * k2 (ix2 i l) := by
  pointwise [pV, pDown]

theorem pMax_at (a : FVec Ideal S32x128 .f32) (v : FVec Ideal S32x256 .f32) (i : Fin 32) (l : Fin 128) :
    pMax a v (ix2 i l) = max (a (ix2 i l)) (max (max (v (ix2 i ⟨l.val, by omega⟩)) (-v (ix2 i ⟨l.val, by omega⟩)))
      (max (v (ix2 i ⟨128 + l.val, by omega⟩)) (-v (ix2 i ⟨128 + l.val, by omega⟩)))) := by
  pointwise [pMax, pLo, pHi]
  rfl

theorem pRow_at (a : FVec Ideal S32x128 .f32) (i : Fin 32) (l : Fin 128) :
    pRow a (ix2 i l) = Finset.univ.fold max (Ideal.ofBits .f32 0xFF800000#32) fun k : Fin 128 => a (ix2 i k) := by
  pointwise [pRow]

theorem pBf_at (v : FVec Ideal S32x256 .f32) (i : Fin 32) (l : Fin 256) : pBf v (ix3 0 i l) = v (ix2 i l) := by
  pointwise [pBf]

theorem pCode_at (v : Vec Ideal S1x32x256 .f32) (k : FVec Ideal S32x256 .f32) (i : Fin 32) (l : Fin 256) :
    pCode v k (ix3 0 i l) = min (Ideal.ofBits .f32 0x47600000#32) (max (Ideal.ofBits .f32 0xC7600000#32) (v (ix3 0 i l) * k (ix2 i l))) := by
  pointwise [pCode, pDown]

theorem pLine_at (v : Vec Ideal S1x128 .f32) (i l : Fin 128) : pLine v (ix2 i l) = v (ix2 0 i) := by
  pointwise [pLine]

theorem pUnline_at (v : Vec Ideal S128x128 .f32) (l : Fin 128) : pUnline v (ix2 0 l) = v (ix2 l 0) := by
  pointwise [pUnline]

theorem pCopy_eq (v : Vec Ideal S1x128 .f32) : pCopy v = v := by
  funext j
  pointwise [pCopy]

theorem pDg0_at (q : Fin 8) (d : Fin 3584) : pDg0 (F := Ideal) (ix2 q d) = 0 := by
  pointwise [pDg0]

theorem pDgamma_at (v : Vec Ideal S8x3584 .f32) (d : Fin 3584) : pDgamma v (ix2 0 d) = ∑ q : Fin 8, v (ix2 q d) := by
  pointwise [pDgamma]

end Cert.KernelIdeal.Hand
-- ==== Proof.Exponent.lean ====
/- The exponent of a positive number: found bit by bit by the kernel, and by a logarithm in the reference. -/
module

public import Idealize.ShloMosaic.PureOps.Ideal
public import Idealize.ShloMosaic.PureOps.Ideal.Laws
public import Idealize.ShloMosaic.Lib.IdealHost

@[expose] public section

noncomputable section

namespace Cert.Exponent

open Idealize.ShloMosaic

/-- What the float with exponent field `n` and no fraction denotes. -/
def val (n : ℕ) : EReal := Ideal.ofBits .f32 (BitVec.ofNat 32 (n * 8388608))

/-- The fields of such a float. -/
theorem fields : ∀ n : Fin 256, ((BitVec.ofNat 32 (n.val * 8388608)).extractLsb' 23 8).toNat = n.val
    ∧ ((BitVec.ofNat 32 (n.val * 8388608)).extractLsb' 0 23).toNat = 0
    ∧ ((BitVec.ofNat 32 (n.val * 8388608)).extractLsb' 31 1 == 1#1) = false := by decide +kernel

theorem val_zero : val 0 = 0 := Ideal.ofBits_zero_f32

/-- A normal power of two. -/
theorem val_normal {n : ℕ} (h0 : 1 ≤ n) (h1 : n ≤ 254) : val n = (((2 : ℝ) ^ ((n : ℤ) - 127) : ℝ) : EReal) := by
  obtain ⟨a, b, c⟩ := fields ⟨n, by omega⟩
  simp only at a b c
  unfold val Ideal.ofBits Ideal.ieee
  simp only [a, b, c]
  rw [if_neg (by omega), if_neg (by omega)]
  refine congrArg _ ?_
  simp only [Bool.false_eq_true, if_false, one_mul, add_zero]
  rw [show ((n : ℤ) - (2 ^ (8 - 1) - 1) - ((23 : ℕ) : ℤ)) = ((n : ℤ) - 127) - 23 by norm_num,
    zpow_sub₀ (two_ne_zero)]
  push_cast
  have : (2 : ℝ) ^ (23 : ℤ) = 2 ^ (23 : ℕ) := by norm_cast
  rw [this]
  field_simp
  norm_num

/-- The field of all ones denotes infinity. -/
theorem val_top : val 255 = ⊤ := by
  obtain ⟨a, b, c⟩ := fields ⟨255, by omega⟩
  simp only at a b c
  unfold val Ideal.ofBits Ideal.ieee
  simp only [a, b, c]
  rw [if_pos (by norm_num), if_pos trivial, if_neg (by simp)]

/-- One bit of the search. -/
def bitStep (y : EReal) (n k : ℕ) : ℕ := if val (n + k) ≤ y then n + k else n

/-- The search, from the top bit down. -/
def search (y : EReal) : ℕ :=
  bitStep y (bitStep y (bitStep y (bitStep y (bitStep y (bitStep y (bitStep y (bitStep y 0 128) 64) 32) 16) 8) 4) 2) 1

/-- What the search knows with `k` fields left. -/
structure Known (y : EReal) (n k : ℕ) : Prop where
  top : n + k ≤ 256
  low : val n ≤ y
  high : n + k < 256 → y < val (n + k)

theorem Known.step {y : EReal} {n k : ℕ} (h : Known y n (2 * k)) (hk : 0 < k) : Known y (bitStep y n k) k := by
  have ht := h.top
  unfold bitStep
  by_cases hc : val (n + k) ≤ y
  · rw [if_pos hc]
    refine ⟨by omega, hc, fun hl => ?_⟩
    have := h.high (by omega)
    rwa [show n + k + k = n + 2 * k by omega]
  · rw [if_neg hc]
    exact ⟨by omega, h.low, fun _ => not_le.1 hc⟩

/-- The search finds the greatest field that denotes no more than `y`. -/
theorem search_spec {y : EReal} (h0 : 0 ≤ y) (h1 : y < ⊤) : search y ≤ 254 ∧ val (search y) ≤ y ∧ y < val (search y + 1) := by
  have K : Known y (search y) 1 :=
    (((((((Known.step (k := 128) ⟨by omega, val_zero.trans_le h0, fun h => by omega⟩ (by omega)).step (k := 64) (by omega)).step (k := 32) (by omega)).step
      (k := 16) (by omega)).step (k := 8) (by omega)).step (k := 4) (by omega)).step (k := 2) (by omega)).step (k := 1) (by omega)
  have ht := K.top
  have hne : search y ≠ 255 := fun e => by
    have := K.low
    rw [e, val_top] at this
    exact absurd h1 (not_lt.2 this)
  exact ⟨by omega, K.low, K.high (by omega)⟩

/-- The exponent the reference raises two to. -/
def expo (y : EReal) : EReal :=
  if y < val 1 then 0 else Ideal.liftRound Int.floor (Ideal.div (Ideal.log y) (Ideal.log ((2 : ℝ) : EReal))) + 1

/-- The reference's exponent by the field found. -/
theorem expo_eq {y : ℝ} (h0 : 0 ≤ y) (h1 : y < 2 ^ (125 : ℕ)) :
    search (y : EReal) ≤ 252 ∧ expo (y : EReal) = (((if search (y : EReal) = 0 then 0 else (search (y : EReal) : ℤ) - 126 : ℤ) : ℝ) : EReal) := by
  obtain ⟨a, b, c⟩ := search_spec (y := (y : EReal)) (by exact_mod_cast h0) (EReal.coe_lt_top y)
  set n := search (y : EReal) with hn
  by_cases hz : n = 0
  · rw [hz] at c ⊢
    refine ⟨by omega, ?_⟩
    unfold expo
    rw [if_pos c]; simp
  · have hb := b
    have v := val_normal (n := n) (by omega) a
    rw [v, EReal.coe_le_coe_iff] at hb
    have hn' : n ≤ 251 := by
      by_contra hc
      have : (2 : ℝ) ^ (125 : ℤ) ≤ 2 ^ ((n : ℤ) - 127) := zpow_le_zpow_right₀ (by norm_num) (by omega)
      have e : (2 : ℝ) ^ (125 : ℤ) = 2 ^ (125 : ℕ) := by norm_cast
      linarith
    refine ⟨by omega, ?_⟩
    have hc := c
    rw [val_normal (n := n + 1) (by omega) (by omega), EReal.coe_lt_coe_iff] at hc
    have h1' : ¬ ((y : EReal) < val 1) := by
      rw [val_normal (n := 1) le_rfl (by omega), EReal.coe_lt_coe_iff, not_lt]
      refine le_trans ?_ hb
      exact zpow_le_zpow_right₀ (by norm_num) (by omega)
    have hy : 0 < y := lt_of_lt_of_le (by positivity) hb
    have hl : 0 < Real.log 2 := Real.log_pos (by norm_num)
    have hfl : ⌊Real.log y * (Real.log 2)⁻¹⌋ = (n : ℤ) - 127 := by
      rw [Int.floor_eq_iff, ← div_eq_mul_inv]
      constructor
      · rw [le_div_iff₀ hl, ← Real.log_zpow]
        exact Real.log_le_log (by positivity) hb
      · rw [div_lt_iff₀ hl]
        have := Real.log_lt_log hy hc
        rw [Real.log_zpow] at this
        push_cast at this ⊢
        linarith
    unfold expo
    rw [if_neg h1', if_neg hz]
    have e1 : Ideal.log (y : EReal) = ((Real.log y : ℝ) : EReal) := by
      show (if y ≤ 0 then (⊥ : EReal) else _) = _
      rw [if_neg (not_le.2 hy)]
    have e2 : Ideal.log ((2 : ℝ) : EReal) = ((Real.log 2 : ℝ) : EReal) := by
      show (if (2 : ℝ) ≤ 0 then (⊥ : EReal) else _) = _
      rw [if_neg (by norm_num)]
    have e3 : Ideal.div ((Real.log y : ℝ) : EReal) ((Real.log 2 : ℝ) : EReal) = ((Real.log y * (Real.log 2)⁻¹ : ℝ) : EReal) := by
      rw [Ideal.div_coe hl.ne', one_div, EReal.coe_mul]
    rw [e1, e2, e3]
    have e4 : Ideal.liftRound Int.floor ((Real.log y * (Real.log 2)⁻¹ : ℝ) : EReal) = ((⌊Real.log y * (Real.log 2)⁻¹⌋ : ℝ) : EReal) := rfl
    rw [e4, hfl]
    rw [show (1 : EReal) = ((1 : ℝ) : EReal) from rfl, ← EReal.coe_add]
    refine congrArg _ ?_
    push_cast; ring

/-- The scale: two to the reference's exponent is what the kernel's field denotes. -/
theorem scale_eq {y : ℝ} (h0 : 0 ≤ y) (h1 : y < 2 ^ (125 : ℕ)) :
    Ideal.pow ((2 : ℝ) : EReal) (expo (y : EReal)) = if search (y : EReal) = 0 then 1 else val (search (y : EReal) + 1) := by
  obtain ⟨a, e⟩ := expo_eq h0 h1
  rw [e]
  show ((Real.rpow 2 _ : ℝ) : EReal) = _
  split
  · next h => simp
  · next h =>
    rw [val_normal (by omega) (by omega)]
    refine congrArg _ ((Real.rpow_intCast 2 _).trans (congrArg _ ?_))
    push_cast; ring

/-- The inverse scale: two to minus the reference's exponent is what the kernel's other field denotes. -/
theorem inv_eq {y : ℝ} (h0 : 0 ≤ y) (h1 : y < 2 ^ (125 : ℕ)) :
    Ideal.pow ((2 : ℝ) : EReal) (-expo (y : EReal)) = if search (y : EReal) = 0 then 1 else val (253 - search (y : EReal)) := by
  obtain ⟨a, e⟩ := expo_eq h0 h1
  rw [e, ← EReal.coe_neg]
  show ((Real.rpow 2 _ : ℝ) : EReal) = _
  split
  · next h => simp
  · next h =>
    rw [val_normal (by omega) (by omega), ← Int.cast_neg]
    refine congrArg _ ((Real.rpow_intCast 2 _).trans (congrArg _ ?_))
    omega

end Cert.Exponent
-- ==== Proof.Search.lean ====
/- The kernel's exponent search at an index, and the scale and its inverse made from it. -/
module

public import proofs.«01_k».proof.Proof.Payload
public import proofs.«01_k».proof.Proof.Exponent

@[expose] public section

noncomputable section

namespace Cert.KernelIdeal.Hand

open Cert.KernelIdeal Cert.KernelIdeal.Gen Cert.Exponent
open Idealize.ShloMosaic Idealize.ShloMosaic.TcCoe Idealize.ShloMosaic.Pointwise
open Idealize.SL Idealize.SL.RA Idealize.SL.Sem

theorem pBit_sel (y : FVec Ideal S32x128 .f32) (f : IVec S32x128 32) (bit : BitVec 32) (i : Fin 32) (l : Fin 128) :
    pBit y f bit (ix2 i l) = if Ideal.ofBits .f32 (f (ix2 i l) + bit) ≤ y (ix2 i l) then f (ix2 i l) + bit else f (ix2 i l) := by
  pointwise [pBit]
  rfl

/-- One bit of the search: the field stays a multiple of the lowest exponent bit. -/
theorem pBit_at (y : FVec Ideal S32x128 .f32) (f : IVec S32x128 32) (i : Fin 32) (l : Fin 128) (n q : ℕ)
    (h : f (ix2 i l) = BitVec.ofNat 32 (n * 8388608)) :
    pBit y f (BitVec.ofNat 32 (q * 8388608)) (ix2 i l) = BitVec.ofNat 32 (bitStep (y (ix2 i l)) n q * 8388608) := by
  rw [pBit_sel, h, ← BitVec.ofNat_add, ← add_mul]
  unfold bitStep val
  split
  · rfl
  · rfl

theorem pY_at (a : FVec Ideal S32x128 .f32) (i : Fin 32) (l : Fin 128) : pY a (ix2 i l) = a (ix2 i l) * Ideal.ofBits .f32 0x37924925#32 := by
  pointwise [pY]

/-- The field found. -/
theorem pField_at (a : FVec Ideal S32x128 .f32) (i : Fin 32) (l : Fin 128) :
    pField a (ix2 i l) = BitVec.ofNat 32 (search (a (ix2 i l) * Ideal.ofBits .f32 0x37924925#32) * 8388608) := by
  rw [← pY_at]
  unfold pField search
  exact pBit_at _ _ i l _ 1 (pBit_at _ _ i l _ 2 (pBit_at _ _ i l _ 4 (pBit_at _ _ i l _ 8 (pBit_at _ _ i l _ 16
    (pBit_at _ _ i l _ 32 (pBit_at _ _ i l _ 64 (pBit_at _ _ i l 0 128 rfl)))))))

theorem sel (f : BitVec 32) (a b : EReal) :
    Scalar.select (IntOp.ori (IntOp.cmpi CmpIPredicate.eq f 0#32) (IntOp.cmpi CmpIPredicate.eq f 2139095040#32)) a b
      = if f = 0#32 ∨ f = 2139095040#32 then a else b := by
  unfold Scalar.select IntOp.ori IntOp.cmpi
  by_cases h0 : f = 0#32
  · subst h0; simp
  · by_cases h1 : f = 2139095040#32
    · subst h1; simp
    · simp [h0, h1, beq_eq_false_iff_ne.2 h0, beq_eq_false_iff_ne.2 h1]

theorem pScale_sel (a : FVec Ideal S32x128 .f32) (i : Fin 32) (l : Fin 128) :
    pScale a (ix2 i l) = if pField a (ix2 i l) = 0#32 ∨ pField a (ix2 i l) = 2139095040#32 then 1
      else Ideal.ofBits .f32 (pField a (ix2 i l) + 8388608#32) := by
  unfold pScale
  generalize pField a = f
  pointwise [pUnit]
  exact sel _ _ _

theorem pInv_sel (a : FVec Ideal S32x128 .f32) (i : Fin 32) (l : Fin 128) :
    pInv a (ix2 i l) = if pField a (ix2 i l) = 0#32 ∨ pField a (ix2 i l) = 2139095040#32 then 1
      else Ideal.ofBits .f32 (2122317824#32 - pField a (ix2 i l)) := by
  unfold pInv
  generalize pField a = f
  pointwise [pUnit]
  exact sel _ _ _

/-- Fields up to 254: which are zero, none of them all ones, and the inverse's field. -/
theorem field_facts : ∀ n : Fin 253, (BitVec.ofNat 32 (n.val * 8388608) = 0#32 ∨ BitVec.ofNat 32 (n.val * 8388608) = 2139095040#32 ↔ n.val = 0)
    ∧ BitVec.ofNat 32 (n.val * 8388608) + 8388608#32 = BitVec.ofNat 32 ((n.val + 1) * 8388608)
    ∧ 2122317824#32 - BitVec.ofNat 32 (n.val * 8388608) = BitVec.ofNat 32 ((253 - n.val) * 8388608) := by decide +kernel

section

variable (a : FVec Ideal S32x128 .f32) (i : Fin 32) (l : Fin 128) {y : ℝ} (e : a (ix2 i l) * Ideal.ofBits .f32 0x37924925#32 = (y : EReal))
  (h0 : 0 ≤ y) (h1 : y < 2 ^ (125 : ℕ))
include e h0 h1

/-- The scale found is two to the reference's exponent. -/
theorem pScale_at : pScale a (ix2 i l) = Ideal.pow ((2 : ℝ) : EReal) (expo (a (ix2 i l) * Ideal.ofBits .f32 0x37924925#32)) := by
  rw [pScale_sel, pField_at, e, scale_eq h0 h1]
  obtain ⟨hz, hs, hi⟩ := field_facts ⟨search (y : EReal), Nat.lt_succ_of_le (expo_eq h0 h1).1⟩
  simp only at hz hs hi
  rw [hs]
  exact if_congr hz rfl rfl

/-- Its inverse is two to minus the reference's exponent. -/
theorem pInv_at : pInv a (ix2 i l) = Ideal.pow ((2 : ℝ) : EReal) (-expo (a (ix2 i l) * Ideal.ofBits .f32 0x37924925#32)) := by
  rw [pInv_sel, pField_at, e, inv_eq h0 h1]
  obtain ⟨hz, hs, hi⟩ := field_facts ⟨search (y : EReal), Nat.lt_succ_of_le (expo_eq h0 h1).1⟩
  simp only at hz hs hi
  rw [hi]
  exact if_congr hz rfl rfl

end

end Cert.KernelIdeal.Hand
-- ==== Proof.Rows.lean ====
/- A trip's 32 rows over the extended reals: `dtotal`, its row maxima and the scales, in terms of the operand blocks. -/
module

public import proofs.«01_k».proof.Proof.Effect
public import proofs.«01_k».proof.Proof.Search

@[expose] public section

noncomputable section

namespace Cert.KernelIdeal.Hand

open Cert.KernelIdeal Cert.KernelIdeal.Gen Cert.Exponent
open Idealize.ShloMosaic Idealize.ShloMosaic.TcCoe Idealize.ShloMosaic.Pointwise
open Idealize.SL Idealize.SL.RA Idealize.SL.Sem
open Cert.Runs

/-- Row `i` of trip `u`. -/
def rowIx (u : Fin k0_t1_loop.trips) (i : Fin 32) : Fin 256 := ⟨32 * u.val + i.val, by have := u.isLt; have := trips_eq; omega⟩
/-- Column `l` of chunk `j`. -/
def colIx (j : Fin 14) (l : Fin 256) : Fin 3584 := ⟨256 * j.val + l.val, by omega⟩
/-- A lane's left column. -/
def lo (k : Fin 128) : Fin 256 := ⟨k.val, by omega⟩
/-- A lane's right column. -/
def hi (k : Fin 128) : Fin 256 := ⟨128 + k.val, by omega⟩

/-- Every column is the left or the right one of a lane of a chunk. -/
theorem col_cases (d : Fin 3584) : ∃ j : Fin 14, ∃ k : Fin 128, d = colIx j (lo k) ∨ d = colIx j (hi k) := by
  refine ⟨⟨d.val / 256, by omega⟩, ⟨d.val % 128, Nat.mod_lt _ (by decide)⟩, ?_⟩
  by_cases h : d.val % 256 < 128
  · exact .inl (Fin.ext (show d.val = 256 * (d.val / 256) + d.val % 128 by omega))
  · exact .inr (Fin.ext (show d.val = 256 * (d.val / 256) + (128 + d.val % 128) by omega))

/-- A sum over columns, by lanes and chunks. -/
theorem sum_cols (f : Fin 3584 → EReal) : ∑ k : Fin 128, ∑ j : Fin 14, (f (colIx j (lo k)) + f (colIx j (hi k))) = ∑ d, f d := by
  have e1 : ∑ d, f d = ∑ p : Fin 14 × Fin 256, f (colIx p.1 p.2) :=
    (Fintype.sum_equiv (finProdFinEquiv (m := 14) (n := 256)) (fun p => f (colIx p.1 p.2)) f
      (fun p => congrArg f (Fin.ext (show 256 * p.1.val + p.2.val = p.2.val + 256 * p.1.val by omega)))).symm
  have e2 : ∀ g : Fin 256 → EReal, ∑ l, g l = ∑ k : Fin 128, (g (lo k) + g (hi k)) := fun g => by
    have h := (Fintype.sum_equiv (finProdFinEquiv (m := 2) (n := 128)) (fun p => if p.1 = 0 then g (lo p.2) else g (hi p.2)) g (fun p => by
      obtain ⟨a, k⟩ := p
      fin_cases a
      · exact congrArg g (Fin.ext (show k.val = k.val + 128 * 0 by omega))
      · exact congrArg g (Fin.ext (show 128 + k.val = k.val + 128 * 1 by omega)))).symm
    rw [h, Fintype.sum_prod_type, Fin.sum_univ_two, Finset.sum_add_distrib]
    simp
  rw [e1, Fintype.sum_prod_type, Finset.sum_comm]
  exact Finset.sum_congr rfl fun j _ => (e2 fun l => f (colIx j l)).symm

section trip

variable (st : State Ideal) (u : Fin k0_t1_loop.trips)

/-- A chunk of a block at an index. -/
theorem TC_at {α : Type} (x : S1x256x3584.Idx → α) (j : Fin 14) (i : Fin 32) (l : Fin 256) :
    (TC.read x (u, j) : S1x32x256.Idx → α) (ix3 0 i l) = x (ix3 0 (rowIx u i) (colIx j l)) := by
  refine congrArg x (funext fun a => Fin.ext ?_)
  match a with
  | ⟨0, _⟩ => rfl
  | ⟨1, _⟩ => show 32 * u.val + 1 * i.val = 32 * u.val + i.val; omega
  | ⟨2, _⟩ => show 256 * j.val + 1 * l.val = 256 * j.val + l.val; omega

theorem T1_at {α : Type} (x : S1x3584.Idx → α) (j : Fin 14) (l : Fin 256) :
    (T1.read x j : S1x256.Idx → α) (ix2 0 l) = x (ix2 0 (colIx j l)) := by
  refine congrArg x (funext fun a => Fin.ext ?_)
  match a with
  | ⟨0, _⟩ => rfl
  | ⟨1, _⟩ => show 256 * j.val + 1 * l.val = 256 * j.val + l.val; omega

theorem TR_at {α : Type} (x : S256x128.Idx → α) (i : Fin 32) (k : Fin 128) :
    (TR.read x u : S32x128.Idx → α) (ix2 i k) = x (ix2 (rowIx u i) k) := by
  refine congrArg x (funext fun a => Fin.ext ?_)
  match a with
  | ⟨0, _⟩ => show 32 * u.val + 1 * i.val = 32 * u.val + i.val; omega
  | ⟨1, _⟩ => show 0 + 1 * k.val = k.val; omega

/-- The operands as functions of a row and a column. -/
def opX (row : Fin 256) (d : Fin 3584) : EReal := (st 0 : S1x256x3584.Idx → EReal) (ix3 0 row d)
def opDy (row : Fin 256) (d : Fin 3584) : EReal := (st 1 : S1x256x3584.Idx → EReal) (ix3 0 row d)
def opG (d : Fin 3584) : EReal := (st 2 : S1x3584.Idx → EReal) (ix2 0 d)
def opE (row : Fin 256) (d : Fin 3584) : EReal := (st 4 : S1x256x3584.Idx → EReal) (ix3 0 row d)

variable (ρ : Fin 256 → EReal) (hρ : ∀ row k, (st 12 : S256x128.Idx → EReal) (ix2 row k) = ρ row)
include hρ

theorem vdyr_at (j : Fin 14) (i : Fin 32) (l : Fin 256) : vdyr st u j (ix2 i l) = opDy st (rowIx u i) (colIx j l) * ρ (rowIx u i) := by
  have e : vdyr st u j (ix2 i l) = pX (F := Ideal) (TC.read (st 1) (u, j)) (ix2 i l) * pCat (F := Ideal) (TR.read (st 12) u) (ix2 i l) := rfl
  rw [e]
  exact congrArg₂ (· * ·) ((pX_at (TC.read (st 1) (u, j)) i l).trans (TC_at u (st 1) j i l))
    ((pCat_at (TR.read (st 12) u) i l).trans ((TR_at u (st 12) i _).trans (hρ _ _)))

theorem vh_at (j : Fin 14) (i : Fin 32) (l : Fin 256) :
    vh st u j (ix2 i l) = opDy st (rowIx u i) (colIx j l) * ρ (rowIx u i) * opG st (colIx j l) := by
  refine (pH_at (vdyr st u j) (T1.read (st 2) j) i l).trans ?_
  rw [vdyr_at st u ρ hρ]
  exact congrArg _ (T1_at (st 2) j l)

omit hρ in
theorem vx_at (j : Fin 14) (i : Fin 32) (l : Fin 256) : (vx st u j : S1x32x256.Idx → EReal) (ix3 0 i l) = opX st (rowIx u i) (colIx j l) :=
  TC_at u (st 0) j i l

/-- The terms of a row's sum. -/
def termOf (row : Fin 256) (d : Fin 3584) : EReal := opDy st row d * ρ row * opG st d * opX st row d

theorem vacc_at (i : Fin 32) (k : Fin 128) (n : ℕ) (hn : n ≤ 14) : vacc st u n (ix2 i k)
    = ∑ j ∈ Finset.range n, if h : j < 14 then termOf st ρ (rowIx u i) (colIx ⟨j, h⟩ (lo k)) + termOf st ρ (rowIx u i) (colIx ⟨j, h⟩ (hi k)) else 0 := by
  induction n with
  | zero => exact pZero_at i k
  | succ n ih =>
    rw [Finset.sum_range_succ, dif_pos (show n < 14 from hn), ← ih (by omega), vacc_succ st u ⟨n, hn⟩, pAcc_at, vh_at st u ρ hρ, vh_at st u ρ hρ]
    exact congrArg₂ (fun a b => _ + (_ * a + _ * b)) (vx_at st u _ i (lo k)) (vx_at st u _ i (hi k))

theorem vacc_sum (i : Fin 32) : ∑ k : Fin 128, vacc st u 14 (ix2 i k) = ∑ d, termOf st ρ (rowIx u i) d := by
  rw [← sum_cols]
  refine Finset.sum_congr rfl fun k _ => ?_
  rw [vacc_at st u ρ hρ i k 14 le_rfl, Finset.sum_range]
  exact Finset.sum_congr rfl fun j _ => dif_pos j.isLt

/-- `dtotal` as the kernel computes it. -/
def totalK (row : Fin 256) (d : Fin 3584) : EReal :=
  opDy st row d * ρ row * opG st d + opE st row d - opX st row d * (ρ row * ρ row * ((∑ d, termOf st ρ row d) * ((1 / 3584 : ℝ) : EReal)))

theorem tK2_at (i : Fin 32) (l : Fin 256) :
    tK2 st u (ix2 i l) = ρ (rowIx u i) * ρ (rowIx u i) * ((∑ d, termOf st ρ (rowIx u i) d) * ((1 / 3584 : ℝ) : EReal)) := by
  unfold tK2
  rw [pDown1_pUp1, pCat_at]
  refine (pK_at (TR.read (st 12) u) (vacc st u 14) i _).trans ?_
  rw [vacc_sum st u ρ hρ]
  have e := (TR_at u (st 12) i ⟨l.val % 128, Nat.mod_lt _ (by decide)⟩).trans (hρ _ _)
  exact congrArg (fun a => a * a * _) e

theorem cV_at (j : Fin 14) (i : Fin 32) (l : Fin 256) : cV st u j (ix2 i l) = totalK st ρ (rowIx u i) (colIx j l) := by
  unfold cV
  rw [pV_at, tK2_at st u ρ hρ]
  unfold vt vxf
  rw [pUp_at, pUp_at, pX_at]
  have e : addf (vh st u j) (pX (F := Ideal) (TC.read (st 4) (u, j))) (ix2 i l) = vh st u j (ix2 i l) + pX (F := Ideal) (TC.read (st 4) (u, j)) (ix2 i l) := rfl
  rw [e, vh_at st u ρ hρ]
  exact congrArg₂ (fun a b => _ + a - b * _) ((pX_at (TC.read (st 4) (u, j)) i l).trans (TC_at u (st 4) j i l)) (vx_at st u j i l)

/-- What bounds the row maxima so far. -/
theorem cMax_le (i : Fin 32) (k : Fin 128) (z : EReal) (n : ℕ) (hn : n ≤ 14) : cMax st u n (ix2 i k) ≤ z
    ↔ 0 ≤ z ∧ ∀ j : Fin 14, j.val < n → (max (totalK st ρ (rowIx u i) (colIx j (lo k))) (-totalK st ρ (rowIx u i) (colIx j (lo k))) ≤ z
      ∧ max (totalK st ρ (rowIx u i) (colIx j (hi k))) (-totalK st ρ (rowIx u i) (colIx j (hi k))) ≤ z) := by
  induction n with
  | zero =>
    have e : cMax st u 0 (ix2 i k) = 0 := pZero_at i k
    rw [e]
    exact ⟨fun h => ⟨h, fun j hj => absurd hj (Nat.not_lt_zero _)⟩, fun h => h.1⟩
  | succ n ih =>
    have e : cMax st u (n + 1) = pMax (cMax st u n) (cV st u ⟨n, hn⟩) := by
      show (if h : n < 14 then _ else _) = _
      rw [dif_pos (show n < 14 from hn)]
    rw [e, pMax_at, cV_at st u ρ hρ, cV_at st u ρ hρ]
    have H := ih (by omega)
    constructor
    · intro h
      obtain ⟨a, b⟩ := max_le_iff.1 h
      obtain ⟨z0, hz⟩ := H.1 a
      refine ⟨z0, fun j hj => ?_⟩
      by_cases hl : j.val < n
      · exact hz j hl
      · obtain rfl : j = ⟨n, hn⟩ := Fin.ext (show j.val = n by omega)
        exact max_le_iff.1 b
    · rintro ⟨z0, hz⟩
      refine max_le_iff.2 ⟨H.2 ⟨z0, fun j hj => hz j (by omega)⟩, ?_⟩
      exact max_le_iff.2 (hz ⟨n, hn⟩ (Nat.lt_succ_self n))

/-- A row's greatest magnitude, from where the fold starts. -/
def rowMax (f : Fin 3584 → EReal) : EReal := Finset.univ.fold max (Ideal.ofBits .f32 0xFF800000#32) fun d => max (f d) (-f d)

omit hρ in
theorem magnitude_nonneg (z : EReal) : 0 ≤ max z (-z) := by
  rcases le_total 0 z with h | h
  · exact h.trans (le_max_left _ _)
  · exact (EReal.neg_nonneg.2 h).trans (le_max_right _ _)

theorem cRow_at (i : Fin 32) (k : Fin 128) : cRow st u (ix2 i k) = rowMax (totalK st ρ (rowIx u i)) := by
  refine eq_of_forall_ge_iff fun z => ?_
  unfold cRow rowMax
  rw [pRow_at, Finset.fold_max_le, Finset.fold_max_le]
  refine and_congr_right fun _ => ?_
  constructor
  · intro h d _
    obtain ⟨j, k, hd⟩ := col_cases d
    have := (((cMax_le st u ρ hρ i k z 14 le_rfl).1 (h k (Finset.mem_univ _))).2 j j.isLt)
    rcases hd with rfl | rfl
    · exact this.1
    · exact this.2
  · intro h k _
    refine (cMax_le st u ρ hρ i k z 14 le_rfl).2 ⟨?_, fun j _ => ⟨h _ (Finset.mem_univ _), h _ (Finset.mem_univ _)⟩⟩
    exact (magnitude_nonneg _).trans (h 0 (Finset.mem_univ _))

end trip

end Cert.KernelIdeal.Hand
-- ==== Proof.Operands.lean ====
/- A grid point's operands in terms of the argument arrays: the rows a block holds, and the row statistics a point
   gathers. -/
module

public import proofs.«01_k».proof.Proof.Launch
public import proofs.«01_k».proof.Proof.Rows
public import Idealize.ShloMosaic.Lib.Pipeline.Value
public import Idealize.ShloMosaic.Lib.Pipeline.ValueKit.Geometry
public import Idealize.ShloMosaic.Lib.Claim

@[expose] public section

noncomputable section

namespace Cert.KernelIdeal.Hand

open Cert.KernelIdeal Cert.KernelIdeal.Gen
open Idealize.ShloMosaic Idealize.ShloMosaic.TcCoe Idealize.ShloMosaic.Pointwise Idealize.ShloMosaic.Tactic
open Idealize.SL Idealize.SL.RA Idealize.SL.Sem
open Cert.Runs

/-- Where each window's block lies at each point. -/
theorem idx : ∀ t : Fin cfg0.N, win0_0.index t = ![t.val / 16, t.val % 16, 0] ∧ win0_1.index t = ![t.val / 16, t.val % 16, 0]
    ∧ win0_2.index t = ![0, 0] ∧ win0_3.index t = ![0, 0] ∧ win0_4.index t = ![t.val / 16, t.val % 16, 0]
    ∧ win0_5.index t = ![0, 0] ∧ win0_6.index t = ![t.val / 16, t.val % 16, 0] ∧ win0_7.index t = ![t.val / 16, t.val % 16, 0]
    ∧ win0_8.index t = ![0, 0] ∧ t.val < 192 :=
  (by decide +kernel : ∀ t : Fin grid0.N, _)

variable (m : (ℓ : Loc nD τ sig) → Buf (Elt Ideal) ℓ) (c : Dev nD) (t : Fin cfg0.N)

/-- The batch a point works on. -/
def bOf (t : Fin cfg0.N) : Fin 12 := ⟨t.val / 16, by have := (idx t).2.2.2.2.2.2.2.2.2; omega⟩
/-- The sequence position of a point's row. -/
def sOf (t : Fin cfg0.N) (row : Fin 256) : Fin 4096 := ⟨256 * (t.val % 16) + row.val, by omega⟩

/-- The argument arrays. -/
abbrev argX : S12x4096x3584.Idx → EReal := m ((c : Thread nD τ).loc main_arg0)
abbrev argDy : S12x4096x3584.Idx → EReal := m ((c : Thread nD τ).loc main_arg1)
abbrev argG : S3584.Idx → EReal := m ((c : Thread nD τ).loc main_arg2)
abbrev argR : S12x4096.Idx → EReal := m ((c : Thread nD τ).loc main_arg3)
abbrev argE : S12x4096x3584.Idx → EReal := m ((c : Thread nD τ).loc main_arg4)

theorem x_at (row : Fin 256) (d : Fin 3584) : opX (pin m c t) row d = argX m c (ix3 (bOf t) (sOf t row) d) := by
  show (iblk m c 0 t : S1x256x3584.Idx → EReal) (ix3 0 row d) = _
  unfold bOf sOf
  blk_ext [iblk, V, idx t]

theorem dy_at (row : Fin 256) (d : Fin 3584) : opDy (pin m c t) row d = argDy m c (ix3 (bOf t) (sOf t row) d) := by
  show (iblk m c 1 t : S1x256x3584.Idx → EReal) (ix3 0 row d) = _
  unfold bOf sOf
  blk_ext [iblk, V, idx t]

theorem e_at (row : Fin 256) (d : Fin 3584) : opE (pin m c t) row d = argE m c (ix3 (bOf t) (sOf t row) d) := by
  show (iblk m c 4 t : S1x256x3584.Idx → EReal) (ix3 0 row d) = _
  unfold bOf sOf
  blk_ext [iblk, V, idx t]

theorem V_gamma (d : Fin 3584) : (V m c main_v0 : S1x3584.Idx → EReal) (ix2 0 d) = argG m c (ix1 d) := by
  entry_read
  pointwise

theorem g_at (d : Fin 3584) : opG (pin m c t) d = argG m c (ix1 d) := by
  refine Eq.trans ?_ (V_gamma m c d)
  show (iblk m c 2 t : S1x3584.Idx → EReal) (ix2 0 d) = _
  blk_ext [iblk, idx t]

theorem iblk3_at (b : Fin 12) (s : Fin 4096) : (iblk m c 3 t : S12x4096.Idx → EReal) (ix2 b s) = argR m c (ix2 b s) := by
  blk_ext [iblk, V, idx t]

theorem stats_at (b : Fin 12) (s : Fin 4096) : (stats m c : S12x4096.Idx → EReal) (ix2 b s) = argR m c (ix2 b s) :=
  iblk3_at m c _ b s

/-- A line of the row statistics. -/
theorem TS_at {α : Type} (x : S12x4096.Idx → α) (n : Fin 384) (k : Fin 128) (b : Fin 12) (s : Fin 4096)
    (hb : b.val = n.val / 32) (hs : s.val = 128 * (n.val % 32) + k.val) :
    TS.read x n (ix2 0 k : S1x128.Idx) = x (ix2 b s) := by
  refine congrArg x (funext fun a => Fin.ext ?_)
  match a with
  | ⟨0, _⟩ => show n.val / 32 + 1 * 0 = b.val; omega
  | ⟨1, _⟩ => show 128 * (n.val % 32) + 1 * k.val = s.val; omega

theorem TL_at {α : Type} (x : S384x128.Idx → α) (n : Fin 384) (k : Fin 128) :
    TL.read x n (ix2 0 k : S1x128.Idx) = x (ix2 n k) := by
  refine congrArg x (funext fun a => Fin.ext ?_)
  match a with
  | ⟨0, _⟩ => show n.val + 1 * 0 = n.val; omega
  | ⟨1, _⟩ => show 0 + 1 * k.val = k.val; omega

/-- A half of the rows. -/
theorem TH_at {α : Type} (x : S256x128.Idx → α) (h : Fin 2) (q k : Fin 128) (row : Fin 256) (hr : row.val = 128 * h.val + q.val) :
    TH.read x h (ix2 q k : S128x128.Idx) = x (ix2 row k) := by
  refine congrArg x (funext fun a => Fin.ext ?_)
  match a with
  | ⟨0, _⟩ => show 128 * h.val + 1 * q.val = row.val; omega
  | ⟨1, _⟩ => show 0 + 1 * k.val = k.val; omega

/-- The row statistics of a point. -/
def rho (row : Fin 256) : EReal := argR m c (ix2 (bOf t) (sOf t row))

theorem r_at (row : Fin 256) (k : Fin 128) : ((pin m c t) 12 : S256x128.Idx → EReal) (ix2 row k) = rho m c t row := by
  have hl := line_val t
  have ht := (idx t).2.2.2.2.2.2.2.2.2
  obtain ⟨h, q, hr⟩ : ∃ h : Fin 2, ∃ q : Fin 128, row.val = 128 * h.val + q.val :=
    ⟨⟨row.val / 128, by omega⟩, ⟨row.val % 128, Nat.mod_lt _ (by decide)⟩, by show row.val = 128 * (row.val / 128) + row.val % 128; omega⟩
  let w : Fin 2 → S128x128.Idx → EReal := fun h => pLine (F := Ideal) (TL.read (linesOf (stats m c)) (line (grid0.coords t) h))
  show TH.tile w (ix2 row k : S256x128.Idx) = _
  refine (TH_at (TH.tile w) h q k row hr).symm.trans ((congrFun (TH.read_tile w h) _).trans ?_)
  refine (pLine_at (TL.read (linesOf (stats m c)) (line (grid0.coords t) h)) q k).trans ?_
  unfold linesOf
  refine (congrFun (TL.read_tile _ _) (ix2 0 q : S1x128.Idx)).trans ?_
  refine (congrFun (pCopy_eq (TS.read (stats m c) (line (grid0.coords t) h))) (ix2 0 q : S1x128.Idx)).trans ?_
  refine (TS_at (stats m c) _ q (bOf t) (sOf t row) ?_ ?_).trans (stats_at m c _ _)
  · rw [hl]; show t.val / 16 = (2 * t.val + h.val) / 32; omega
  · rw [hl]; show 256 * (t.val % 16) + row.val = 128 * ((2 * t.val + h.val) % 32) + q.val; omega

end Cert.KernelIdeal.Hand
-- ==== Proof.Agree.lean ====
/- One row: the kernel's formula of `dtotal` is the reference's where that is real, and the level of a row in range is a
   small nonnegative real. -/
module

public import proofs.«01_k».proof.Proof.Exponent

@[expose] public section

noncomputable section

namespace Cert.Agree

open Idealize.ShloMosaic Cert.Exponent

/-- What a positive normal float denotes. -/
theorem ofBits_normal (b : BitVec 32) {n k : ℕ} (hn : (b.extractLsb' 23 8).toNat = n) (hk : (b.extractLsb' 0 23).toNat = k)
    (hs : (b.extractLsb' 31 1 == 1#1) = false) (h1 : n ≠ 255) (h0 : n ≠ 0) :
    Ideal.ofBits .f32 b = ((((2 : ℝ) ^ (23 : ℕ) + k) * (2 : ℝ) ^ ((n : ℤ) - 127 - 23) : ℝ) : EReal) := by
  unfold Ideal.ofBits Ideal.ieee
  simp only [hn, hk, hs]
  rw [if_neg (by omega), if_neg (by omega)]
  refine congrArg _ ?_
  norm_num

/-- The columns' number. -/
theorem cols_eq : Ideal.ofBits .f32 0x45600000#32 = ((3584 : ℝ) : EReal) :=
  (ofBits_normal _ (n := 138) (k := 6291456) (by decide) (by decide) (by decide) (by decide) (by decide)).trans (congrArg _ (by norm_num))

/-- A number of finite magnitude is real. -/
theorem real_of_lt {z : EReal} (h : max z (-z) < ⊤) : ∃ a : ℝ, z = a := by
  obtain ⟨h1, h2⟩ := max_lt_iff.1 h
  refine ⟨z.toReal, (EReal.coe_toReal h1.ne fun e => ?_).symm⟩
  rw [e] at h2
  simp at h2

/-- A product with a real factor other than zero is real only if the other factor is. -/
theorem real_of_mul {r : ℝ} (hr : r ≠ 0) {D : EReal} {z : ℝ} (h : (r : EReal) * D = z) : ∃ a : ℝ, D = a := by
  induction D with
  | coe a => exact ⟨a, rfl⟩
  | top =>
    rcases lt_or_gt_of_ne hr with h' | h'
    · rw [EReal.coe_mul_top_of_neg h'] at h; exact absurd h.symm (EReal.coe_ne_bot z)
    · rw [EReal.coe_mul_top_of_pos h'] at h; exact absurd h.symm (EReal.coe_ne_top z)
  | bot =>
    rcases lt_or_gt_of_ne hr with h' | h'
    · rw [EReal.coe_mul_bot_of_neg h'] at h; exact absurd h.symm (EReal.coe_ne_top z)
    · rw [EReal.coe_mul_bot_of_pos h'] at h; exact absurd h.symm (EReal.coe_ne_bot z)

/-- A real sum has real terms. -/
theorem real_of_add {A B : EReal} {z : ℝ} (h : A + B = z) : (∃ a : ℝ, A = a) ∧ ∃ b : ℝ, B = b := by
  induction A with
  | bot => rw [EReal.bot_add] at h; exact absurd h.symm (EReal.coe_ne_bot z)
  | coe a =>
    induction B with
    | coe b => exact ⟨⟨a, rfl⟩, b, rfl⟩
    | bot => rw [EReal.add_bot] at h; exact absurd h.symm (EReal.coe_ne_bot z)
    | top => rw [EReal.coe_add_top] at h; exact absurd h.symm (EReal.coe_ne_top z)
  | top =>
    induction B with
    | coe b => rw [EReal.top_add_coe] at h; exact absurd h.symm (EReal.coe_ne_top z)
    | bot => rw [EReal.add_bot] at h; exact absurd h.symm (EReal.coe_ne_bot z)
    | top => rw [EReal.top_add_top] at h; exact absurd h.symm (EReal.coe_ne_top z)

theorem real_of_sub {A B : EReal} {z : ℝ} (h : A - B = z) : (∃ a : ℝ, A = a) ∧ ∃ b : ℝ, B = b := by
  rw [sub_eq_add_neg] at h
  obtain ⟨ha, b, hb⟩ := real_of_add h
  exact ⟨ha, -b, by rw [EReal.coe_neg, ← hb, neg_neg]⟩

/-- An infinite factor times a number is real only if that number is zero. -/
theorem zero_of_mul {r : EReal} (hr : r = ⊤ ∨ r = ⊥) {D : EReal} {z : ℝ} (h : r * D = z) : D = 0 := by
  rcases lt_trichotomy D 0 with h' | h' | h'
  · rcases hr with rfl | rfl
    · rw [EReal.top_mul_of_neg h'] at h; exact absurd h.symm (EReal.coe_ne_bot z)
    · rw [EReal.bot_mul_of_neg h'] at h; exact absurd h.symm (EReal.coe_ne_top z)
  · exact h'
  · rcases hr with rfl | rfl
    · rw [EReal.top_mul_of_pos h'] at h; exact absurd h.symm (EReal.coe_ne_top z)
    · rw [EReal.bot_mul_of_pos h'] at h; exact absurd h.symm (EReal.coe_ne_bot z)

/-- The factor `r` multiplies out where the product is real. -/
theorem mul_sub_of_real {r A t : EReal} {z : ℝ} (h : r * (A - r * t) = z) : r * A - r * (r * t) = r * (A - r * t) := by
  have inf : r = ⊤ ∨ r = ⊥ → r * A - r * (r * t) = r * (A - r * t) := fun hr => by
    have h0 := zero_of_mul hr h
    obtain ⟨-, b, hb⟩ := real_of_sub (z := 0) (by rw [h0]; rfl)
    have ht := zero_of_mul hr hb
    subst ht
    simp
  induction r with
  | top => exact inf (.inl rfl)
  | bot => exact inf (.inr rfl)
  | coe r =>
    by_cases hr : r = 0
    · subst hr; simp
    · obtain ⟨a, ha⟩ := real_of_mul hr h
      obtain ⟨⟨p, hp⟩, q, hq⟩ := real_of_sub ha
      rw [hq, hp, ← EReal.coe_mul, ← EReal.coe_mul, ← EReal.coe_sub, ← EReal.coe_sub, ← EReal.coe_mul]
      exact congrArg _ (by ring)

/-- `dtotal` by the kernel and by the reference, where the latter is real. -/
theorem total_eq {x dy g : Fin 3584 → EReal} {r e : EReal} {d : Fin 3584} {z : ℝ}
    (h : r * (dy d * g d - x d * r * Ideal.div (∑ k, dy k * g k * (x k * r)) (Ideal.ofBits .f32 0x45600000#32)) + e = z) :
    dy d * r * g d + e - x d * (r * r * ((∑ k, dy k * r * g k * x k) * ((1 / 3584 : ℝ) : EReal)))
      = r * (dy d * g d - x d * r * Ideal.div (∑ k, dy k * g k * (x k * r)) (Ideal.ofBits .f32 0x45600000#32)) + e := by
  rw [cols_eq, Ideal.div_coe (by norm_num)] at h ⊢
  have e1 : ∑ k, dy k * r * g k * x k = ∑ k, dy k * g k * (x k * r) := Finset.sum_congr rfl fun k _ => by ac_rfl
  rw [e1]
  generalize (∑ k, dy k * g k * (x k * r)) * ((1 / 3584 : ℝ) : EReal) = C at h ⊢
  have e2 : x d * r * C = r * (x d * C) := by ac_rfl
  have e3 : x d * (r * r * C) = r * (r * (x d * C)) := by ac_rfl
  have e4 : dy d * r * g d = r * (dy d * g d) := by ac_rfl
  rw [e2] at h ⊢
  obtain ⟨⟨w, hw⟩, -⟩ := real_of_add h
  rw [e3, e4, ← mul_sub_of_real hw, sub_eq_add_neg, sub_eq_add_neg, add_right_comm]

/-- Where the row maxima start. -/
theorem bottom_eq : Ideal.ofBits .f32 0xFF800000#32 = ⊥ := by
  have e : ((0xFF800000#32 : BitVec 32).extractLsb' 23 8).toNat = 255 := by decide
  have f : ((0xFF800000#32 : BitVec 32).extractLsb' 0 23).toNat = 0 := by decide
  have s : ((0xFF800000#32 : BitVec 32).extractLsb' 31 1 == 1#1) = true := by decide
  unfold Ideal.ofBits Ideal.ieee
  simp only [e, f, s]
  norm_num

/-- The largest float, and one over 57344 rounded. -/
theorem max_eq : Ideal.ofBits .f32 0x7F7FFFFF#32 = ((16777215 * 2 ^ (104 : ℕ) : ℝ) : EReal) :=
  (ofBits_normal _ (n := 254) (k := 8388607) (by decide) (by decide) (by decide) (by decide) (by decide)).trans (congrArg _ (by norm_num))
theorem over_eq : Ideal.ofBits .f32 0x37924925#32 = ((9586981 / 2 ^ (39 : ℕ) : ℝ) : EReal) :=
  (ofBits_normal _ (n := 111) (k := 1198373) (by decide) (by decide) (by decide) (by decide) (by decide)).trans (congrArg _ (by norm_num))

/-- The level of a row whose magnitudes are floats' is a real, and small. -/
theorem level_real {f : Fin 3584 → EReal} (h : ∀ d, max (f d) (-f d) ≤ Ideal.ofBits .f32 0x7F7FFFFF#32) :
    ∃ y : ℝ, (Finset.univ.fold max (Ideal.ofBits .f32 0xFF800000#32) fun d => max (f d) (-f d)) * Ideal.ofBits .f32 0x37924925#32 = (y : EReal)
      ∧ 0 ≤ y ∧ y < 2 ^ (125 : ℕ) := by
  set a := Finset.univ.fold max (Ideal.ofBits .f32 0xFF800000#32) fun d => max (f d) (-f d) with ha
  have hle : a ≤ Ideal.ofBits .f32 0x7F7FFFFF#32 := Finset.fold_max_le _ |>.2 ⟨by rw [bottom_eq]; exact bot_le, fun d _ => h d⟩
  have hge : 0 ≤ a := by
    have h0 : max (f 0) (-f 0) ≤ a := ((Finset.fold_max_le (s := Finset.univ) (f := fun d => max (f d) (-f d)) a).1 le_rfl).2 0 (Finset.mem_univ _)
    refine le_trans ?_ h0
    rcases le_total 0 (f 0) with h | h
    · exact h.trans (le_max_left _ _)
    · exact (EReal.neg_nonneg.2 h).trans (le_max_right _ _)
  rw [max_eq] at hle
  obtain ⟨b, hb⟩ : ∃ b : ℝ, a = b :=
    ⟨a.toReal, (EReal.coe_toReal (hle.trans_lt (EReal.coe_lt_top _)).ne ((EReal.bot_lt_zero).trans_le hge).ne').symm⟩
  rw [hb] at hle hge ⊢
  have h1 : b ≤ 16777215 * 2 ^ (104 : ℕ) := EReal.coe_le_coe_iff.1 hle
  have h2 : 0 ≤ b := by exact_mod_cast hge
  refine ⟨b * (9586981 / 2 ^ (39 : ℕ)), by rw [over_eq, ← EReal.coe_mul], by positivity, ?_⟩
  nlinarith

end Cert.Agree
-- ==== Proof.Reference.lean ====
/- The reference's arrays as functions of its arguments: the host's operations before the cast, and the cast. -/
module

public import proofs.«01_k».proof.Proof.Gen.ReferenceIdeal.Value
public import Idealize.ShloMosaic.Lib.Pointwise
public import Idealize.ShloMosaic.Lib.StableHlo

@[expose] public section

noncomputable section

namespace Cert.ReferenceIdeal.Hand

open Cert.ReferenceIdeal Cert.ReferenceIdeal.Facts₀
open Idealize.ShloMosaic Idealize.ShloMosaic.TcCoe Idealize.ShloMosaic.StableHlo Idealize.SL.Sem

section terms

variable (x dy : FVec Ideal S12x4096x3584 .bf16) (gamma : FVec Ideal S3584 .f32) (rstd : FVec Ideal S12x4096 .f32) (dres : FVec Ideal S12x4096x3584 .bf16)

/-- A row's number at each of its columns. -/
def rows (r : FVec Ideal S12x4096 .f32) : FVec Ideal S12x4096x3584 .f32 :=
  broadcastInDim S12x4096x3584 ![0, 1, 2] bcast_S12x4096x1_S12x4096x3584_0_1_2 (broadcastInDim S12x4096x1 ![0, 1] bcast_S12x4096_S12x4096x1_0_1 r)
/-- `x·rstd`. -/
def xhat : FVec Ideal S12x4096x3584 .f32 := mulf (extf .f32 x bitsLt_bf16_f32) (rows rstd)
/-- `dy·gamma`. -/
def grad : FVec Ideal S12x4096x3584 .f32 :=
  mulf (extf .f32 dy bitsLt_bf16_f32) (broadcastInDim S12x4096x3584 ![0, 1, 2] bcast_S1x1x3584_S12x4096x3584_0_1_2 (broadcastInDim S1x1x3584 ![2] bcast_S3584_S1x1x3584_2 gamma))
/-- The sum of `dy·gamma·x·rstd` over a row. -/
def dot : FVec Ideal S12x4096 .f32 :=
  Host.reduceAdd (mulf (grad dy gamma) (xhat x rstd)) (constant S_ .f32 0x00000000#32) reducesTo_S12x4096x3584_S12x4096_d2 h_S_
/-- The row mean at each column. -/
def mean : FVec Ideal S12x4096x3584 .f32 :=
  broadcastInDim S12x4096x3584 ![0, 1, 2] bcast_S12x4096x1_S12x4096x3584_0_1_2
    (Host.divf (broadcastInDim S12x4096x1 ![0, 1] bcast_S12x4096_S12x4096x1_0_1 (dot x dy gamma rstd)) (broadcastInDim S12x4096x1 ![] bcast_S_S12x4096x1 (constant S_ .f32 0x45600000#32)))
/-- `dtotal`. -/
def total : FVec Ideal S12x4096x3584 .f32 :=
  addf (mulf (rows rstd) (subf (grad dy gamma) (mulf (xhat x rstd) (mean x dy gamma rstd)))) (extf .f32 dres bitsLt_bf16_f32)
/-- The sum over rows. -/
def down (v : FVec Ideal S12x4096x3584 .f32) : FVec Ideal S3584 .f32 :=
  Host.reduceAdd v (constant S_ .f32 0x00000000#32) reducesTo_S12x4096x3584_S3584_d0_1 h_S_
/-- `dgamma`'s terms. -/
def terms : FVec Ideal S12x4096x3584 .f32 := mulf (extf .f32 dy bitsLt_bf16_f32) (xhat x rstd)
/-- `dgamma`. -/
def dgamma : FVec Ideal S1x3584 .f32 := broadcastInDim S1x3584 ![1] bcast_S3584_S1x3584_1 (down (terms x dy rstd))
/-- The greatest of each row. -/
def greatest (v : FVec Ideal S12x4096x3584 .f32) : FVec Ideal S12x4096 .f32 :=
  Host.reduce FloatOps.maximumf v (constant S_ .f32 0xFF800000#32) reducesTo_S12x4096x3584_S12x4096_d2 h_S_
/-- Each number over 57344. -/
def over (w : FVec Ideal S12x4096 .f32) : FVec Ideal S12x4096 .f32 :=
  mulf w (broadcastInDim S12x4096 ![] bcast_S_S12x4096 (constant S_ .f32 0x37924925#32))
/-- A row's greatest magnitude over 57344. -/
def level (v : FVec Ideal S12x4096x3584 .f32) : FVec Ideal S12x4096 .f32 := over (greatest (Host.absf v))
/-- The exponent of a level's scale. -/
def exponent (y : FVec Ideal S12x4096 .f32) : FVec Ideal S12x4096 .f32 :=
  select (cmpf .olt y (broadcastInDim S12x4096 ![] bcast_S_S12x4096 (constant S_ .f32 0x00800000#32)))
    (broadcastInDim S12x4096 ![] bcast_S_S12x4096 (constant S_ .f32 0x00000000#32))
    (addf (Host.floor (Host.divf (Host.log y) (broadcastInDim S12x4096 ![] bcast_S_S12x4096 (Host.log (constant S_ .f32 0x40000000#32)))))
      (broadcastInDim S12x4096 ![] bcast_S_S12x4096 (constant S_ .f32 0x3F800000#32)))
/-- Two to an exponent. -/
def pow2 (e : FVec Ideal S12x4096 .f32) : FVec Ideal S12x4096 .f32 :=
  Host.powf (broadcastInDim S12x4096 ![] bcast_S_S12x4096 (constant S_ .f32 0x40000000#32)) e
/-- Two to minus an exponent. -/
def inverse (e : FVec Ideal S12x4096 .f32) : FVec Ideal S12x4096 .f32 := pow2 (Host.negf e)
/-- The array scaled by a number a row, and clipped. -/
def clip (v : FVec Ideal S12x4096x3584 .f32) (w : FVec Ideal S12x4096 .f32) : FVec Ideal S12x4096x3584 .f32 :=
  minimumf (broadcastInDim S12x4096x3584 ![] bcast_S_S12x4096x3584 (constant S_ .f32 0x47600000#32))
    (maximumf (broadcastInDim S12x4096x3584 ![] bcast_S_S12x4096x3584 (constant S_ .f32 0xC7600000#32)) (mulf v (rows w)))
/-- The array scaled to its rows' levels and clipped. -/
def clipped (v : FVec Ideal S12x4096x3584 .f32) : FVec Ideal S12x4096x3584 .f32 := clip v (inverse (exponent (level v)))

end terms

variable (m : (ℓ : Loc nD τ sig) → Buf (Elt Ideal) ℓ) (c : Dev nD)

/-- `dtotal` of the arguments in memory. -/
abbrev totalOf : FVec Ideal S12x4096x3584 .f32 := total (m ((c : Thread nD τ).loc main_arg0)) (m ((c : Thread nD τ).loc main_arg1)) (m ((c : Thread nD τ).loc main_arg2))
  (m ((c : Thread nD τ).loc main_arg3)) (m ((c : Thread nD τ).loc main_arg4))

set_option maxRecDepth 20000 in
set_option maxHeartbeats 4000000 in
/-- The reference's second result before the cast: `dgamma`. -/
theorem V_v22 : Gen.V m c main_v22 = dgamma (m ((c : Thread nD τ).loc main_arg0)) (m ((c : Thread nD τ).loc main_arg1)) (m ((c : Thread nD τ).loc main_arg3)) := by
  unfold Gen.V
  simp only [Gen.hostOps0, Gen.hostOps0_1, Gen.hostOps0_2, Gen.hostOps0_3, List.flatten_cons, List.flatten_nil, List.append_nil, List.cons_append, List.nil_append]
  after_results
  rfl

set_option maxRecDepth 20000 in
set_option maxHeartbeats 4000000 in
/-- The reference's first result: `dtotal` rounded. -/
theorem V_v23 : Gen.V m c main_v23 = truncf .bf16 (totalOf m c) bitsLt_bf16_f32 := by
  unfold Gen.V
  simp only [Gen.hostOps0, Gen.hostOps0_1, Gen.hostOps0_2, Gen.hostOps0_3, List.flatten_cons, List.flatten_nil, List.append_nil, List.cons_append, List.nil_append]
  after_results
  rfl

set_option maxRecDepth 20000 in
set_option maxHeartbeats 4000000 in
/-- The reference's fourth result: the scales. -/
theorem V_v39 : Gen.V m c main_v39 = pow2 (exponent (level (totalOf m c))) := by
  unfold Gen.V
  simp only [Gen.hostOps0, Gen.hostOps0_1, Gen.hostOps0_2, Gen.hostOps0_3, List.flatten_cons, List.flatten_nil, List.append_nil, List.cons_append, List.nil_append]
  after_results
  simp -implicitDefEqProofs only [TRef.ofBuf_toBuf, TRef.toBuf, TRef.ofBuf, TRef.of, cast_eq, eq_mp_eq_cast, eq_mpr_eq_cast, id]
  rfl

set_option maxRecDepth 20000 in
set_option maxHeartbeats 4000000 in
/-- What the reference casts for its third result. -/
theorem V_v46 : Gen.V m c main_v46 = clipped (totalOf m c) := by
  unfold Gen.V
  simp only [Gen.hostOps0, Gen.hostOps0_1, Gen.hostOps0_2, Gen.hostOps0_3, List.flatten_cons, List.flatten_nil, List.append_nil, List.cons_append, List.nil_append]
  after_results
  simp -implicitDefEqProofs only [TRef.ofBuf_toBuf, TRef.toBuf, TRef.ofBuf, TRef.of, cast_eq, eq_mp_eq_cast, eq_mpr_eq_cast, id]
  rfl

end Cert.ReferenceIdeal.Hand
-- ==== Proof.RefAt.lean ====
/- The reference's arrays read at an index. -/
module

public import proofs.«01_k».proof.Proof.Reference
public import proofs.«01_k».proof.Proof.Exponent

@[expose] public section

noncomputable section

namespace Cert.ReferenceIdeal.Hand

open Cert.ReferenceIdeal Cert.ReferenceIdeal.Facts₀
open Idealize.ShloMosaic Idealize.ShloMosaic.TcCoe Idealize.ShloMosaic.StableHlo Idealize.SL.Sem Idealize.ShloMosaic.Pointwise

/-- The reference's two, as a real. -/
theorem two_eq : Ideal.ofBits .f32 0x40000000#32 = ((2 : ℝ) : EReal) :=
  (Exponent.val_normal (n := 128) (by norm_num) (by norm_num)).trans (by norm_num)

variable (x dy : FVec Ideal S12x4096x3584 .bf16) (gamma : FVec Ideal S3584 .f32) (rstd : FVec Ideal S12x4096 .f32) (dres : FVec Ideal S12x4096x3584 .bf16)
variable (b : Fin 12) (s : Fin 4096) (d : Fin 3584)

/-- `dtotal` at an index. -/
theorem total_at : total x dy gamma rstd dres (ix3 b s d)
    = rstd (ix2 b s) * (dy (ix3 b s d) * gamma (ix1 d) - x (ix3 b s d) * rstd (ix2 b s)
        * Ideal.div (∑ k : Fin 3584, dy (ix3 b s k) * gamma (ix1 k) * (x (ix3 b s k) * rstd (ix2 b s))) (Ideal.ofBits .f32 0x45600000#32)) + dres (ix3 b s d) := by
  pointwise [total, mean, dot, grad, xhat, rows]

/-- The indices a sum over the first two axes takes. -/
theorem fiber (j : S3584.Idx) (i : S12x4096x3584.Idx) :
    reducesTo_S12x4096x3584_S3584_d0_1.drop i = j ↔ ∃ k : Fin 12 × Fin 4096, (ix3 k.1 k.2 (j 0) : S12x4096x3584.Idx) = i := by
  constructor
  · intro e
    refine ⟨(i 0, i 1), ?_⟩
    funext a
    apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

/-- A sum over the first two axes. -/
theorem down_at (v : FVec Ideal S12x4096x3584 .f32) : down v (ix1 d) = ∑ k : Fin 12 × Fin 4096, v (ix3 k.1 k.2 d) := by
  unfold down
  rw [Host.reduceAdd_apply, Ideal.hostReduceAdd_def]
  unfold Ideal.hostReduceAdd
  rw [Finset.sum_filter_eq_sum_of_fiber _ (fun k : Fin 12 × Fin 4096 => (ix3 k.1 k.2 d : S12x4096x3584.Idx)) (fun _ _ e => Prod.ext (congrFun e 0) (congrFun e 1)) (fiber (ix1 d))]
  refine (congrArg (· + _) ?_).trans (zero_add _)
  exact Ideal.ofBits_zero_f32
theorem flat_at (w : FVec Ideal S3584 .f32) : broadcastInDim S1x3584 ![1] bcast_S3584_S1x3584_1 w (ix2 (0 : Fin 1) d) = w (ix1 d) := by
  pointwise
theorem terms_at : terms x dy rstd (ix3 b s d) = dy (ix3 b s d) * (x (ix3 b s d) * rstd (ix2 b s)) := by
  pointwise [terms, xhat, rows]
/-- `dgamma` at an index. -/
theorem dgamma_at : dgamma x dy rstd (ix2 (0 : Fin 1) d) = ∑ k : Fin 12 × Fin 4096, dy (ix3 k.1 k.2 d) * (x (ix3 k.1 k.2 d) * rstd (ix2 k.1 k.2)) :=
  (flat_at d (down (terms x dy rstd))).trans ((down_at d (terms x dy rstd)).trans (Finset.sum_congr rfl fun k _ => terms_at x dy rstd k.1 k.2 d))

/-- The greatest of a row is at most what bounds the row and where the fold starts. -/
theorem greatest_at (v : FVec Ideal S12x4096x3584 .f32) :
    greatest v (ix2 b s) = Finset.univ.fold max (Ideal.ofBits .f32 0xFF800000#32) fun k : Fin 3584 => v (ix3 b s k) := by
  unfold greatest
  rw [Host.reduce_eq_fold, Shape.ReducesTo.fold_fiber_r3_a2]
  rfl
theorem over_at (w : FVec Ideal S12x4096 .f32) : over w (ix2 b s) = w (ix2 b s) * Ideal.ofBits .f32 0x37924925#32 := by
  pointwise [over]
/-- A magnitude. -/
theorem magnitude (z : EReal) : FloatOps.hostAbsf (F := Ideal) (φ := .f32) z = max z (-z) := rfl
theorem abs_at (v : FVec Ideal S12x4096x3584 .f32) : Host.absf v (ix3 b s d) = max (v (ix3 b s d)) (-v (ix3 b s d)) := magnitude (v (ix3 b s d))
/-- A row's level. -/
theorem level_at (v : FVec Ideal S12x4096x3584 .f32) : level v (ix2 b s)
    = (Finset.univ.fold max (Ideal.ofBits .f32 0xFF800000#32) fun k : Fin 3584 => max (v (ix3 b s k)) (-v (ix3 b s k))) * Ideal.ofBits .f32 0x37924925#32 := by
  rw [level, over_at, greatest_at]
  simp only [abs_at]

/-- The exponent of a row's scale. -/
theorem exponent_at (y : FVec Ideal S12x4096 .f32) : exponent y (ix2 b s) = Exponent.expo (y (ix2 b s)) := by
  unfold Exponent.expo
  rw [← two_eq]
  pointwise [exponent]
  rfl
/-- Two to an exponent. -/
theorem pow2_at (e : FVec Ideal S12x4096 .f32) : pow2 e (ix2 b s) = Ideal.pow ((2 : ℝ) : EReal) (e (ix2 b s)) := by
  rw [← two_eq]
  pointwise [pow2]
theorem negf_at (e : FVec Ideal S12x4096 .f32) : Host.negf e (ix2 b s) = -e (ix2 b s) := rfl
theorem inverse_at (e : FVec Ideal S12x4096 .f32) : inverse e (ix2 b s) = Ideal.pow ((2 : ℝ) : EReal) (-e (ix2 b s)) :=
  (pow2_at b s (Host.negf e)).trans (congrArg _ (negf_at b s e))
/-- The array scaled and clipped. -/
theorem clip_at (v : FVec Ideal S12x4096x3584 .f32) (w : FVec Ideal S12x4096 .f32) : clip v w (ix3 b s d)
    = min (Ideal.ofBits .f32 0x47600000#32) (max (Ideal.ofBits .f32 0xC7600000#32) (v (ix3 b s d) * w (ix2 b s))) := by
  pointwise [clip, rows]

end Cert.ReferenceIdeal.Hand
-- ==== Proof.Values.lean ====
/- What a grid point writes, in terms of the reference's arrays: `dtotal`, its codes and its rows' scales. -/
module

public import proofs.«01_k».proof.Proof.Operands
public import proofs.«01_k».proof.Proof.Agree
public import proofs.«01_k».proof.Proof.RefAt

@[expose] public section

noncomputable section

namespace Cert.KernelIdeal.Hand

open Cert.KernelIdeal Cert.KernelIdeal.Gen
open Idealize.ShloMosaic Idealize.ShloMosaic.TcCoe Idealize.ShloMosaic.Pointwise Idealize.ShloMosaic.Tactic
open Idealize.SL Idealize.SL.RA Idealize.SL.Sem
open Cert.Runs

/-! ## Tilings at an index -/

/-- A chunk's values at the array's index. -/
theorem TC_tile {α : Type} (w : Fin k0_t1_loop.trips × Fin 14 → S1x32x256.Idx → α) (u : Fin k0_t1_loop.trips) (j : Fin 14) (i : Fin 32) (l : Fin 256) :
    TC.tile w (ix3 0 (rowIx u i) (colIx j l) : S1x256x3584.Idx) = w (u, j) (ix3 0 i l) :=
  (TC_at u (TC.tile w) j i l).symm.trans (congrFun (TC.read_tile w (u, j)) _)

/-- A trip's rows at the array's index. -/
theorem TR_tile {α : Type} (w : Fin k0_t1_loop.trips → S32x128.Idx → α) (u : Fin k0_t1_loop.trips) (i : Fin 32) (k : Fin 128) :
    TR.tile w (ix2 (rowIx u i) k : S256x128.Idx) = w u (ix2 i k) :=
  (TR_at u (TR.tile w) i k).symm.trans (congrFun (TR.read_tile w u) _)

theorem row_cases (row : Fin 256) : ∃ u : Fin k0_t1_loop.trips, ∃ i : Fin 32, row = rowIx u i :=
  ⟨⟨row.val / 32, Nat.lt_of_lt_of_eq (by omega) trips_eq.symm⟩, ⟨row.val % 32, Nat.mod_lt _ (by decide)⟩,
    Fin.ext (show row.val = 32 * (row.val / 32) + row.val % 32 by omega)⟩
theorem chunk_cases (d : Fin 3584) : ∃ j : Fin 14, ∃ l : Fin 256, d = colIx j l :=
  ⟨⟨d.val / 256, by omega⟩, ⟨d.val % 256, Nat.mod_lt _ (by decide)⟩, Fin.ext (show d.val = 256 * (d.val / 256) + d.val % 256 by omega)⟩

/-! ## A point's results -/

variable (m : (ℓ : Loc nD τ sig) → Buf (Elt Ideal) ℓ) (c : Dev nD)

/-- The reference's `dtotal` of the arguments. -/
def tot : S12x4096x3584.Idx → EReal :=
  Cert.ReferenceIdeal.Hand.total (argX m c) (argDy m c) (argG m c) (argR m c) (argE m c)

/-- `dtotal` is no larger than a float may be. -/
def Good : Prop := ∀ i, max (tot m c i) (-tot m c i) ≤ Ideal.ofBits .f32 0x7F7FFFFF#32

variable {m c} (G : Good m c) (t : Fin cfg0.N)
include G

/-- A row of `dtotal`, by the kernel and by the reference. -/
theorem totalK_eq (row : Fin 256) (d : Fin 3584) :
    totalK (pin m c t) (rho m c t) row d = tot m c (ix3 (bOf t) (sOf t row) d) := by
  have e := Cert.ReferenceIdeal.Hand.total_at (argX m c) (argDy m c) (argG m c) (argR m c) (argE m c) (bOf t) (sOf t row) d
  obtain ⟨z, hz⟩ := Agree.real_of_lt ((G (ix3 (bOf t) (sOf t row) d)).trans_lt (Agree.max_eq ▸ EReal.coe_lt_top _))
  unfold totalK termOf
  simp only [x_at, dy_at, g_at, e_at]
  exact (Agree.total_eq (x := fun d => argX m c (ix3 (bOf t) (sOf t row) d)) (dy := fun d => argDy m c (ix3 (bOf t) (sOf t row) d))
    (g := fun d => argG m c (ix1 d)) (e.symm.trans hz)).trans e.symm

theorem totalK_row (row : Fin 256) : totalK (pin m c t) (rho m c t) row = fun d => tot m c (ix3 (bOf t) (sOf t row) d) :=
  funext fun d => totalK_eq G t row d

theorem cV_eq (u : Fin k0_t1_loop.trips) (j : Fin 14) (i : Fin 32) (l : Fin 256) :
    cV (pin m c t) u j (ix2 i l) = tot m c (ix3 (bOf t) (sOf t (rowIx u i)) (colIx j l)) :=
  (cV_at (pin m c t) u (rho m c t) (r_at m c t) j i l).trans (totalK_eq G t _ _)

/-- `dtotal`'s block. -/
theorem total_left (row : Fin 256) (d : Fin 3584) :
    (left m c 6 t : S1x256x3584.Idx → EReal) (ix3 0 row d) = tot m c (ix3 (bOf t) (sOf t row) d) := by
  obtain ⟨u, i, rfl⟩ := row_cases row
  obtain ⟨j, l, rfl⟩ := chunk_cases d
  exact (TC_tile (fun k => pBf (cV (pin m c t) k.1 k.2)) u j i l).trans ((pBf_at _ i l).trans (cV_eq G t u j i l))

/-- The level of a row, by the kernel and by the reference. -/
theorem level_eq (u : Fin k0_t1_loop.trips) (i : Fin 32) (k : Fin 128) : cRow (pin m c t) u (ix2 i k) * Ideal.ofBits .f32 0x37924925#32
    = Cert.ReferenceIdeal.Hand.level (tot m c) (ix2 (bOf t) (sOf t (rowIx u i))) := by
  refine Eq.trans ?_ (Cert.ReferenceIdeal.Hand.level_at (bOf t) (sOf t (rowIx u i)) (tot m c)).symm
  rw [cRow_at (pin m c t) u (rho m c t) (r_at m c t), totalK_row G]
  rfl

/-- A row's scale. -/
theorem scale_at (u : Fin k0_t1_loop.trips) (i : Fin 32) (k : Fin 128) : pScale (cRow (pin m c t) u) (ix2 i k)
    = Cert.ReferenceIdeal.Hand.pow2 (Cert.ReferenceIdeal.Hand.exponent (Cert.ReferenceIdeal.Hand.level (tot m c))) (ix2 (bOf t) (sOf t (rowIx u i))) := by
  obtain ⟨y, hy, h0, h1⟩ := Agree.level_real (f := fun d => tot m c (ix3 (bOf t) (sOf t (rowIx u i)) d)) fun d => G _
  have e := level_eq G t u i k
  have f := Cert.ReferenceIdeal.Hand.level_at (bOf t) (sOf t (rowIx u i)) (tot m c)
  refine (pScale_at _ i k (e.trans (f.trans hy)) h0 h1).trans ?_
  rw [e]
  refine Eq.trans ?_ (Cert.ReferenceIdeal.Hand.pow2_at _ _ _).symm
  exact congrArg _ (Cert.ReferenceIdeal.Hand.exponent_at _ _ _).symm

/-- A row's inverse scale. -/
theorem inv_at (u : Fin k0_t1_loop.trips) (i : Fin 32) (k : Fin 128) : pInv (cRow (pin m c t) u) (ix2 i k)
    = Cert.ReferenceIdeal.Hand.inverse (Cert.ReferenceIdeal.Hand.exponent (Cert.ReferenceIdeal.Hand.level (tot m c))) (ix2 (bOf t) (sOf t (rowIx u i))) := by
  obtain ⟨y, hy, h0, h1⟩ := Agree.level_real (f := fun d => tot m c (ix3 (bOf t) (sOf t (rowIx u i)) d)) fun d => G _
  have e := level_eq G t u i k
  have f := Cert.ReferenceIdeal.Hand.level_at (bOf t) (sOf t (rowIx u i)) (tot m c)
  refine (pInv_at _ i k (e.trans (f.trans hy)) h0 h1).trans ?_
  rw [e]
  refine Eq.trans ?_ (Cert.ReferenceIdeal.Hand.inverse_at _ _ _).symm
  exact congrArg (fun z => Ideal.pow _ (-z)) (Cert.ReferenceIdeal.Hand.exponent_at _ _ _).symm

/-- The codes' block. -/
theorem codes_left (row : Fin 256) (d : Fin 3584) :
    (left m c 7 t : S1x256x3584.Idx → EReal) (ix3 0 row d) = Cert.ReferenceIdeal.Hand.clipped (tot m c) (ix3 (bOf t) (sOf t row) d) := by
  obtain ⟨u, i, rfl⟩ := row_cases row
  obtain ⟨j, l, rfl⟩ := chunk_cases d
  refine (TC_tile (fun k => pCode (pUp (cV (pin m c t) k.1 k.2)) (cInv (pin m c t) k.1)) u j i l).trans ?_
  refine (pCode_at _ _ i l).trans ?_
  refine Eq.trans ?_ (Cert.ReferenceIdeal.Hand.clip_at _ _ _ _ _).symm
  unfold cInv
  rw [pUp_at, cV_eq G, pDown1_pUp1, pCat_at, inv_at G]

/-- The scales of half a point's rows. -/
theorem scaleLine_at (h : Fin 2) (q : Fin 128) (row : Fin 256) (hr : row.val = 128 * h.val + q.val) :
    (scaleLine (pin m c t) h : S1x128.Idx → EReal) (ix2 0 q)
      = Cert.ReferenceIdeal.Hand.pow2 (Cert.ReferenceIdeal.Hand.exponent (Cert.ReferenceIdeal.Hand.level (tot m c))) (ix2 (bOf t) (sOf t row)) := by
  unfold scaleLine
  refine (congrFun (pCopy_eq (pUnline (TH.read (TR.tile fun u => pScale (cRow (pin m c t) u)) h))) (ix2 0 q : S1x128.Idx)).trans ?_
  refine (pUnline_at (TH.read (TR.tile fun u => pScale (cRow (pin m c t) u)) h) q).trans ?_
  refine (TH_at (TR.tile fun u => pScale (cRow (pin m c t) u)) h q 0 row hr).trans ?_
  obtain ⟨u, i, rfl⟩ := row_cases row
  exact (TR_tile (fun u => pScale (cRow (pin m c t) u)) u i 0).trans (scale_at G t u i 0)

/-- The scales' array. -/
theorem scales_left (b : Fin 12) (s : Fin 4096) : (left m c 8 t : S12x4096.Idx → EReal) (ix2 b s)
    = Cert.ReferenceIdeal.Hand.pow2 (Cert.ReferenceIdeal.Hand.exponent (Cert.ReferenceIdeal.Hand.level (tot m c))) (ix2 b s) := by
  obtain ⟨n, hn⟩ : ∃ n : Fin 384, n.val = 32 * b.val + s.val / 128 := ⟨⟨32 * b.val + s.val / 128, by omega⟩, rfl⟩
  obtain ⟨q, hq⟩ : ∃ q : Fin 128, q.val = s.val % 128 := ⟨⟨s.val % 128, Nat.mod_lt _ (by decide)⟩, rfl⟩
  let w : Fin 384 → S1x128.Idx → EReal := fun n => TL.read (scales m c) n
  refine (TS_at (TS.tile w) n q b s (by omega) (by omega)).symm.trans ?_
  refine (congrFun (TS.read_tile w n) _).trans ?_
  refine (congrFun (TL.read_tile (fun n => scaleLine (pin m c ⟨n.val / 2, lt_points n.isLt⟩) ⟨n.val % 2, Nat.mod_lt _ two_pos⟩) n) (ix2 0 q : S1x128.Idx)).trans ?_
  refine (scaleLine_at G ⟨n.val / 2, lt_points n.isLt⟩ ⟨n.val % 2, Nat.mod_lt _ two_pos⟩ q ⟨128 * (n.val % 2) + q.val, by omega⟩ rfl).trans ?_
  refine congrArg _ (congrArg₂ ix2 (Fin.ext ?_) (Fin.ext ?_))
  · show n.val / 2 / 16 = b.val; omega
  · show 256 * (n.val / 2 % 16) + (128 * (n.val % 2) + q.val) = s.val; omega

end Cert.KernelIdeal.Hand
-- ==== Proof.Dgamma.lean ====
/- The kernel's `dgamma`: the sum over trips and points of partial sums over the rows that agree modulo 8 is the sum over
   all the rows. -/
module

public import proofs.«01_k».proof.Proof.Values

@[expose] public section

noncomputable section

namespace Cert.KernelIdeal.Hand

open Cert.KernelIdeal Cert.KernelIdeal.Gen
open Idealize.ShloMosaic Idealize.ShloMosaic.TcCoe Idealize.ShloMosaic.Pointwise Idealize.ShloMosaic.Tactic
open Idealize.SL Idealize.SL.RA Idealize.SL.Sem
open Cert.Runs

/-! ## Sums over numbered rows -/

/-- A sum over `a·b` numbers, in `a` runs of `b`. -/
theorem sum_split (a b : ℕ) (g : ℕ → EReal) : ∑ n ∈ Finset.range (a * b), g n = ∑ i ∈ Finset.range a, ∑ j ∈ Finset.range b, g (b * i + j) := by
  induction a with
  | zero => simp
  | succ a ih => rw [Nat.succ_mul, Finset.sum_range_add, ih, Finset.sum_range_succ, Nat.mul_comm a b]

/-- The kernel's order of the rows: points, trips and groups of eight, the place within a group outermost. -/
theorem sum_rows (g : ℕ → EReal) :
    ∑ q ∈ Finset.range 8, ∑ t ∈ Finset.range 192, ∑ u ∈ Finset.range 8, ∑ k ∈ Finset.range 4, g (256 * t + (32 * u + (8 * k + q)))
      = ∑ b ∈ Finset.range 12, ∑ s ∈ Finset.range 4096, g (4096 * b + s) := by
  rw [← sum_split 12 4096, show 12 * 4096 = 192 * 256 from rfl, sum_split 192 256, Finset.sum_comm]
  refine Finset.sum_congr rfl fun t _ => ?_
  rw [show 256 = 8 * 32 from rfl, sum_split 8 32 fun j => g (8 * 32 * t + j), Finset.sum_comm]
  refine Finset.sum_congr rfl fun u _ => ?_
  rw [show 32 = 4 * 8 from rfl, sum_split 4 8 fun j => g (8 * (4 * 8) * t + (4 * 8 * u + j)), Finset.sum_comm]

/-! ## The trips' partial sums -/

/-- A group of eight rows' columns. -/
theorem T8_at {α : Type} (x : S8x3584.Idx → α) (j : Fin 14) (q : Fin 8) (l : Fin 256) :
    T8.read x j (ix2 q l : S8x256.Idx) = x (ix2 q (colIx j l)) := by
  refine congrArg x (funext fun a => Fin.ext ?_)
  match a with
  | ⟨0, _⟩ => show 0 + 1 * q.val = q.val; omega
  | ⟨1, _⟩ => show 256 * j.val + 1 * l.val = 256 * j.val + l.val; omega
theorem T8_tile {α : Type} (w : Fin 14 → S8x256.Idx → α) (j : Fin 14) (q : Fin 8) (l : Fin 256) :
    T8.tile w (ix2 q (colIx j l) : S8x3584.Idx) = w j (ix2 q l) :=
  (T8_at (T8.tile w) j q l).symm.trans (congrFun (T8.read_tile w j) _)

/-- A trip adds its rows' terms, for rows whose terms at column `col` are `f`. -/
theorem dgLoop_at (st : State Ideal) (ρ : Fin 256 → EReal) (hρ : ∀ row k, (st 12 : S256x128.Idx → EReal) (ix2 row k) = ρ row)
    (old : S8x3584.Idx → EReal) (q : Fin 8) (col : Fin 3584) (f : ℕ → EReal)
    (hf : ∀ row : Fin 256, opDy st row col * ρ row * opX st row col = f row.val) (n : ℕ) (hn : n ≤ 8) :
    (dgLoop st old n : S8x3584.Idx → EReal) (ix2 q col)
      = old (ix2 q col) + ∑ u ∈ Finset.range n, ∑ k ∈ Finset.range 4, f (32 * u + (8 * k + q.val)) := by
  induction n with
  | zero => simp [dgLoop]
  | succ n ih =>
    have hn' : n < k0_t1_loop.trips := Nat.lt_of_lt_of_eq hn trips_eq.symm
    rw [Finset.sum_range_succ, ← add_assoc, ← ih (by omega), dgLoop, dif_pos hn']
    obtain ⟨j, l, rfl⟩ := chunk_cases col
    refine (T8_tile (fun j => pDg (F := Ideal) (T8.read (dgLoop st old n) j) (vdyr st ⟨n, hn'⟩ j) (vx st ⟨n, hn'⟩ j)) j q l).trans ?_
    refine (pDg_at (T8.read (dgLoop st old n) j) (vdyr st ⟨n, hn'⟩ j) (vx st ⟨n, hn'⟩ j) q l).trans ?_
    refine congrArg₂ (· + ·) (T8_at (dgLoop st old n) j q l) ?_
    rw [Finset.sum_range]
    refine Finset.sum_congr rfl fun k _ => ?_
    rw [vdyr_at st ⟨n, hn'⟩ ρ hρ]
    refine (congrArg _ (vx_at st ⟨n, hn'⟩ j _ l)).trans ((hf _).trans (congrArg f ?_))
    show 32 * n + (k.val * 8 + q.val) = 32 * n + (8 * k.val + q.val)
    omega

/-! ## The points' partial sums -/

variable (m : (ℓ : Loc nD τ sig) → Buf (Elt Ideal) ℓ) (c : Dev nD)

/-- The term of a row, the rows numbered through the batches. -/
def termAt (col : Fin 3584) (n : ℕ) : EReal :=
  let b : Fin 12 := ⟨n / 4096 % 12, Nat.mod_lt _ (by decide)⟩
  let s : Fin 4096 := ⟨n % 4096, Nat.mod_lt _ (by decide)⟩
  argDy m c (ix3 b s col) * (argX m c (ix3 b s col) * argR m c (ix2 b s))

theorem termAt_eq (col : Fin 3584) (n : ℕ) (b : Fin 12) (s : Fin 4096) (h : n = 4096 * b.val + s.val) :
    termAt m c col n = argDy m c (ix3 b s col) * (argX m c (ix3 b s col) * argR m c (ix2 b s)) := by
  have hb : (⟨n / 4096 % 12, Nat.mod_lt _ (by decide)⟩ : Fin 12) = b := Fin.ext (show n / 4096 % 12 = b.val by omega)
  have hs : (⟨n % 4096, Nat.mod_lt _ (by decide)⟩ : Fin 4096) = s := Fin.ext (show n % 4096 = s.val by omega)
  unfold termAt
  rw [hb, hs]

theorem term_at (t : Fin cfg0.N) (row : Fin 256) (col : Fin 3584) :
    opDy (pin m c t) row col * rho m c t row * opX (pin m c t) row col = termAt m c col (256 * t.val + row.val) := by
  rw [dy_at, x_at, termAt_eq m c col _ (bOf t) (sOf t row) (by show _ = 4096 * (t.val / 16) + (256 * (t.val % 16) + row.val); omega),
    mul_assoc, mul_comm (rho m c t row)]
  rfl

/-- `dgamma`'s partial sums before a point. -/
theorem dgAt_at (q : Fin 8) (col : Fin 3584) (n : ℕ) (hn : n ≤ 192) : (dgAt m c n : S8x3584.Idx → EReal) (ix2 q col)
    = ∑ t ∈ Finset.range n, ∑ u ∈ Finset.range 8, ∑ k ∈ Finset.range 4, termAt m c col (256 * t + (32 * u + (8 * k + q.val))) := by
  induction n with
  | zero => exact pDg0_at q col
  | succ n ih =>
    have ht : n < cfg0.N := Nat.lt_of_lt_of_eq hn N_0.symm
    rw [Finset.sum_range_succ, ← ih (by omega), dgAt_succ m c ⟨n, ht⟩, trips_eq]
    exact dgLoop_at (pin m c ⟨n, ht⟩) (rho m c ⟨n, ht⟩) (r_at m c ⟨n, ht⟩) (dgAt m c n) q col (fun r => termAt m c col (256 * n + r))
      (fun row => term_at m c ⟨n, ht⟩ row col) 8 le_rfl

/-- `dgamma`, by the kernel and by the reference. -/
theorem dgamma_left (t : Fin cfg0.N) (col : Fin 3584) : (left m c 5 t : S1x3584.Idx → EReal) (ix2 0 col)
    = Cert.ReferenceIdeal.Hand.dgamma (argX m c) (argDy m c) (argR m c) (ix2 0 col) := by
  refine (pDgamma_at (dgAt m c 192) col).trans ?_
  refine Eq.trans ?_ (Cert.ReferenceIdeal.Hand.dgamma_at (argX m c) (argDy m c) (argR m c) col).symm
  have e := sum_rows (termAt m c col)
  rw [Finset.sum_range, Finset.sum_range] at e
  refine (Finset.sum_congr rfl fun q _ => dgAt_at m c q col 192 le_rfl).trans (e.trans ?_)
  rw [Fintype.sum_prod_type]
  refine Finset.sum_congr rfl fun b _ => ?_
  rw [Finset.sum_range]
  exact Finset.sum_congr rfl fun s _ => termAt_eq m c col _ b s rfl

end Cert.KernelIdeal.Hand
-- ==== Proof.Arrays.lean ====
/- The kernel's result arrays after the run: the blocks the points write back, put together. -/
module

public import proofs.«01_k».proof.Proof.Dgamma
public import proofs.«01_k».proof.Proof.Run
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Pointwise Idealize.ShloMosaic.Tactic
open Idealize.SL Idealize.SL.RA Idealize.SL.Sem
open Cert.Runs

variable (m : (ℓ : Loc nD τ sig) → Buf (Elt Ideal) ℓ) (c : Dev nD)

/-- The last point. -/
def lastPoint : Fin cfg0.N := ⟨191, Nat.lt_of_lt_of_eq (by omega : 191 < 192) N_0.symm⟩

/-- Where a block of a per-point result lies. -/
theorem place6 (t : Fin cfg0.N) (y : ((cfg0.win 6).xblock (cfg0.grid.coords t)).Idx) :
    (((cfg0.win 6).blk t).view.emb y : S12x4096x3584.Idx) = ix3 (bOf t) (sOf t (y 1)) (y 2) := by
  unfold bOf sOf
  blk_ext [idx t]
theorem place7 (t : Fin cfg0.N) (y : ((cfg0.win 7).xblock (cfg0.grid.coords t)).Idx) :
    (((cfg0.win 7).blk t).view.emb y : S12x4096x3584.Idx) = ix3 (bOf t) (sOf t (y 1)) (y 2) := by
  unfold bOf sOf
  blk_ext [idx t]

/-- Arrays that agree at every index written out. -/
theorem eq_line {f g : S1x3584.Idx → EReal} (h : ∀ d : Fin 3584, f (ix2 0 d) = g (ix2 0 d)) : f = g := by
  funext y
  have e : y = ix2 0 (y 1) := funext fun a => match a with
    | ⟨0, _⟩ => Fin.ext (show (y 0).val = 0 by have : (y 0).val < 1 := (y 0).isLt; omega)
    | ⟨1, _⟩ => rfl
  rw [e]
  exact h (y 1)
theorem eq_plane {f : S12x4096.Idx → EReal} {g : Fin 12 → Fin 4096 → EReal} (h : ∀ b s, f (ix2 b s) = g b s) (y : S12x4096.Idx) : f y = g (y 0) (y 1) := by
  have e : y = ix2 (y 0) (y 1) := funext fun a => match a with
    | ⟨0, _⟩ => rfl
    | ⟨1, _⟩ => rfl
  rw [e]
  exact h (y 0) (y 1)
theorem eq_block {f : S1x256x3584.Idx → EReal} {g : Fin 256 → Fin 3584 → EReal} (h : ∀ row d, f (ix3 0 row d) = g row d) (y : S1x256x3584.Idx) :
    f y = g (y 1) (y 2) := by
  have e : y = ix3 0 (y 1) (y 2) := funext fun a => match a with
    | ⟨0, _⟩ => Fin.ext (show (y 0).val = 0 by have : (y 0).val < 1 := (y 0).isLt; omega)
    | ⟨1, _⟩ => rfl
    | ⟨2, _⟩ => rfl
  rw [e]
  exact h (y 1) (y 2)

theorem covers6 : (cfg0.win 6).Covers := by decide +kernel
theorem covers7 : (cfg0.win 7).Covers := by decide +kernel
theorem whole5 : (cfg0.win 5).WholeAt lastPoint := by decide +kernel

/-- `dgamma`'s array. -/
theorem dgamma_final : (dat m c).arrAt 5 cfg0.N = Cert.ReferenceIdeal.Hand.dgamma (argX m c) (argDy m c) (argR m c) := by
  refine (dat m c).arrAt_eq_of_after_last 5 lastPoint whole5 _ fun j => ?_
  exact congrFun (eq_line (f := left m c 5 lastPoint) (g := Cert.ReferenceIdeal.Hand.dgamma (argX m c) (argDy m c) (argR m c)) (dgamma_left m c lastPoint)) j

/-- Where the scales' block lies. -/
theorem place8 (t : Fin cfg0.N) (y : ((cfg0.win 8).xblock (cfg0.grid.coords t)).Idx) :
    (((cfg0.win 8).blk t).view.emb y : S12x4096.Idx) = ix2 (y 0) (y 1) := by
  blk_ext [idx t]

theorem covers8 : (cfg0.win 8).Covers := by decide +kernel

/-- The scales' array is what a point leaves of it, every point leaving the same. -/
theorem plane_final (g : S12x4096.Idx → EReal) (h : ∀ t (b : Fin 12) (s : Fin 4096), (left m c 8 t : S12x4096.Idx → EReal) (ix2 b s) = g (ix2 b s)) :
    (dat m c).arrAt 8 cfg0.N = g := by
  refine (dat m c).arrAt_eq_of_covers 8 _ covers8 fun t hf y => ?_
  have h' := h t
  have hd : (dat m c).after 8 t = left m c 8 t := rfl
  refine (cast_eq _ _).trans ?_
  rw [hd]
  generalize left m c 8 t = f at h' ⊢
  exact (eq_plane (f := f) (g := fun b s => g (ix2 b s)) h' ((cfg0.win 8).xinj (cfg0.grid.coords t) y)).trans (congrArg g (place8 t y).symm)

variable {m c} (G : Good m c)
include G

/-- `dtotal`'s array. -/
theorem total_final : (dat m c).arrAt 6 cfg0.N = tot m c := by
  refine (dat m c).arrAt_eq_of_covers 6 _ covers6 fun t _ y => ?_
  exact (eq_block (f := left m c 6 t) (g := fun row d => tot m c (ix3 (bOf t) (sOf t row) d)) (total_left G t) ((cfg0.win 6).xinj (cfg0.grid.coords t) y)).trans
    (congrArg (tot m c) (place6 t y).symm)

/-- The codes' array. -/
theorem codes_final : (dat m c).arrAt 7 cfg0.N = Cert.ReferenceIdeal.Hand.clipped (tot m c) := by
  refine (dat m c).arrAt_eq_of_covers 7 _ covers7 fun t _ y => ?_
  exact (eq_block (f := left m c 7 t) (g := fun row d => Cert.ReferenceIdeal.Hand.clipped (tot m c) (ix3 (bOf t) (sOf t row) d)) (codes_left G t) ((cfg0.win 7).xinj (cfg0.grid.coords t) y)).trans
    (congrArg (Cert.ReferenceIdeal.Hand.clipped (tot m c)) (place7 t y).symm)

/-- The scales' array. -/
theorem scales_final : (dat m c).arrAt 8 cfg0.N
    = Cert.ReferenceIdeal.Hand.pow2 (Cert.ReferenceIdeal.Hand.exponent (Cert.ReferenceIdeal.Hand.level (tot m c))) :=
  plane_final m c (Cert.ReferenceIdeal.Hand.pow2 (Cert.ReferenceIdeal.Hand.exponent (Cert.ReferenceIdeal.Hand.level (tot m c)))) fun t b s => scales_left G t b s

end Cert.KernelIdeal.Hand
-- ==== Proof.Codes.lean ====
/- The reference's arrays after its run. -/
module

public import proofs.«01_k».proof.Proof.Reference
public import Idealize.ShloMosaic.Lib.Pipeline.ValueKit

@[expose] public section

set_option maxRecDepth 16384

noncomputable section

namespace Cert.ReferenceIdeal.Hand

open Cert.ReferenceIdeal Cert.ReferenceIdeal.Facts₀
open Idealize.ShloMosaic Idealize.ShloMosaic.TcCoe Idealize.SL.Sem Idealize.ShloMosaic.Tactic
open Idealize.ShloMosaic.Pipeline (Dat)

variable (m : (ℓ : Loc nD τ sig) → Buf (Elt Ideal) ℓ) (ρ : Dev nD → PrngReg) (c : Dev nD)

theorem whole : (cfg0.win 1).Covers := by decide +kernel

/-- The cast leaves what it reads: over the extended reals a change of format is the identity. -/
theorem cast_at (v : Vec Ideal S12x4096x3584 .f32) (y : S12x4096x3584.Idx) : Gen.out0_1 (F := Ideal) v y = v y := by
  unfold Gen.out0_1
  refine (Value.canon1_eq (F := Ideal) (View.ld v Gen.r0_0) y).trans ?_
  show v (Gen.r0_0.idx (Value.ix1_0 y)) = v y
  refine congrArg v (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem idx : ∀ t : Fin cfg0.N, win0_0.index t = ![0, 0, 0] ∧ win0_1.index t = ![0, 0, 0] :=
  (by decide +kernel : ∀ t : Fin grid0.N, _)

/-- The one block of each window is its array. -/
theorem place0 (t : Fin cfg0.N) (y : ((cfg0.win 0).xblock (cfg0.grid.coords t)).Idx) :
    (((cfg0.win 0).blk t).view.emb y : S12x4096x3584.Idx) = y := by
  blk_ext [idx t]
theorem place1 (t : Fin cfg0.N) (y : ((cfg0.win 1).xblock (cfg0.grid.coords t)).Idx) :
    (((cfg0.win 1).blk t).view.emb y : S12x4096x3584.Idx) = y := by
  blk_ext [idx t]

/-- What the cast reads. -/
theorem iblk_eq (t : Fin cfg0.N) : (Gen.iblk m c 0 t : S12x4096x3584.Idx → EReal) = clipped (totalOf m c) := by
  rw [← V_v46]
  funext y
  show (Gen.V m c main_v46 : S12x4096x3584.Idx → EReal) (((cfg0.win 0).blk t).view.emb y) = _
  generalize (Gen.V m c main_v46 : S12x4096x3584.Idx → EReal) = g
  exact congrArg g (place0 t y)

/-- The cast's array is what the cast leaves. -/
theorem cast_final (g : S12x4096x3584.Idx → EReal) (h : ∀ t, (Gen.iblk m c 0 t : S12x4096x3584.Idx → EReal) = g) : (Gen.dats m 0 c).arrAt 1 cfg0.N = g := by
  refine (Gen.dats m 0 c).arrAt_eq_of_covers 1 _ whole fun t _ y => ?_
  refine (cast_eq _ _).trans ?_
  have h' : ∀ z : S12x4096x3584.Idx, Gen.out0_1 (F := Ideal) (Gen.iblk m c 0 t) z = g z := fun z => (cast_at (Gen.iblk m c 0 t) z).trans (congrFun (h t) z)
  have hd := Gen.after0_1 m c t
  rw [hd]
  generalize Gen.out0_1 (Gen.iblk m c 0 t) = f at h' ⊢
  exact (h' ((cfg0.win 1).xinj (cfg0.grid.coords t) y)).trans (congrArg g (place1 t y).symm)

/-- The codes' array. -/
theorem codes_final : (Gen.dats m 0 c).arrAt 1 cfg0.N = clipped (totalOf m c) := cast_final m c _ (iblk_eq m c)

end Cert.ReferenceIdeal.Hand
-- ==== Proof.Pre.lean ====
/- The precondition at an index: `dtotal`'s magnitudes are no larger than a float's. -/
module

public import proofs.«01_k».proof.Defs
public import proofs.«01_k».proof.Proof.Values

@[expose] public section

noncomputable section

namespace Cert.KernelIdeal.Hand

open Cert.KernelIdeal Cert.KernelIdeal.Gen
open Idealize.ShloMosaic Idealize.ShloMosaic.TcCoe
open Idealize.SL Idealize.SL.RA Idealize.SL.Sem

/-- The precondition's side conditions: shapes that fit one another. -/
instance preFacts : Cert.Pre_in_range.Facts where
  bitsLt_bf16_f32 := by decide
  bcast_S12x4096_S12x4096x1_0_1 := by decide
  bcast_S12x4096x1_S12x4096x3584_0_1_2 := by decide
  bcast_S3584_S1x1x3584_2 := by decide
  bcast_S1x1x3584_S12x4096x3584_0_1_2 := by decide
  reducesTo_S12x4096x3584_S12x4096_d2 := by decide
  h_S_ := by decide
  bcast_S_S12x4096x1 := by decide
  reducesTo_S12x4096x3584_S3584_d0_1 := by decide
  bcast_S_S12x4096x3584 := by decide

/-- What a comparison of one says. -/
theorem le_of_cmp {a b : EReal} (h : Ideal.cmp .ole a b = 1#1) : a ≤ b := by
  by_contra hn
  simp [Ideal.cmp, hn] at h

variable (m : (ℓ : Loc nD τ sig) → Buf (Elt Ideal) ℓ) (c : Dev nD)

/-- The precondition, read at the indices. -/
theorem good (h : Cert.Pre_KernelIdeal_in_range m) : Good m c := by
  intro i
  exact le_of_cmp (a := max (tot m c i) (-tot m c i)) (b := Ideal.ofBits .f32 0x7F7FFFFF#32) (congrFun (h c) i)

end Cert.KernelIdeal.Hand
-- ==== Proof.Algebraic.lean ====
/- Over the extended reals the idealized kernel and the reference end with the same results. -/
module

public import proofs.«01_k».proof.Proof.Arrays
public import proofs.«01_k».proof.Proof.Codes
public import proofs.«01_k».proof.Proof.Pre

@[expose] public section

noncomputable section

namespace Cert.Algebraic

open Idealize.ShloMosaic Idealize.ShloMosaic.TcCoe Idealize.SL.Sem

section reference

open Cert.ReferenceIdeal Cert.ReferenceIdeal.Hand

variable (m : (ℓ : Loc nD τ sig) → Buf (Elt Ideal) ℓ) (ρ : Dev nD → PrngReg)

/-- The reference's run: its results as arrays of its arguments, which end unchanged. -/
theorem reference_run : θ_run (defs (F := Ideal)) (onTc (τ := τ) (main (F := Ideal))) ⟨m, fun _ => 0, ρ⟩ fun r => ∀ c : Dev nD,
      r.2.mem ((c.tc : Thread nD τ).loc main_v22) = dgamma (m ((c.tc : Thread nD τ).loc main_arg0)) (m ((c.tc : Thread nD τ).loc main_arg1)) (m ((c.tc : Thread nD τ).loc main_arg3))
      ∧ r.2.mem ((c.tc : Thread nD τ).loc main_v23) = totalOf m c
      ∧ r.2.mem ((c.tc : Thread nD τ).loc main_v47) = clipped (totalOf m c)
      ∧ r.2.mem ((c.tc : Thread nD τ).loc main_v39) = pow2 (exponent (level (totalOf m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨
      ((h c).2 main_v22 (Pipeline.mem_restRefs_of main_v22 (by decide) (by decide))).trans (V_v22 m c),
      ((h c).2 main_v23 (Pipeline.mem_restRefs_of main_v23 (by decide) (by decide))).trans (V_v23 m c),
      (Value.post1 m r h c).trans (codes_final m c),
      ((h c).2 main_v39 (Pipeline.mem_restRefs_of main_v39 (by decide) (by decide))).trans (V_v39 m c),
      Value.kept_main_arg0 m r h c, Value.kept_main_arg1 m r h c, Value.kept_main_arg2 m r h c,
      Value.kept_main_arg3 m r h c, Value.kept_main_arg4 m r h c⟩)
    (Gen.run_main m ρ)

end reference

section kernel

open Cert.KernelIdeal Cert.KernelIdeal.Hand

variable (m : (ℓ : Loc nD τ sig) → Buf (Elt Ideal) ℓ) (ρ : Dev nD → PrngReg) (G : ∀ c, Good m c)

include G in
/-- The kernel's run: its results are the reference's arrays of its arguments, which end unchanged. -/
theorem kernel_run : θ_run (defs (F := Ideal)) (onTc (τ := τ) (main (F := Ideal))) ⟨m, fun _ => 0, ρ⟩ fun r => ∀ c : Dev nD,
      r.2.mem ((c.tc : Thread nD τ).loc main_v1_0) = Cert.ReferenceIdeal.Hand.dgamma (argX m c) (argDy m c) (argR m c)
      ∧ r.2.mem ((c.tc : Thread nD τ).loc main_v1_1) = tot m c
      ∧ r.2.mem ((c.tc : Thread nD τ).loc main_v1_2) = Cert.ReferenceIdeal.Hand.clipped (tot m c)
      ∧ r.2.mem ((c.tc : Thread nD τ).loc main_v1_3) = Cert.ReferenceIdeal.Hand.pow2 (Cert.ReferenceIdeal.Hand.exponent (Cert.ReferenceIdeal.Hand.level (tot m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      ((h.1 c).1 5).trans (dgamma_final m c), ((h.1 c).1 6).trans (total_final (G c)),
      ((h.1 c).1 7).trans (Hand.codes_final (G c)), ((h.1 c).1 8).trans (scales_final (G c)),
      ((h.1 c).1 0).trans (((dat m c).arrAt_in 0 rfl _).trans (Gen.V_main_arg0 m c)),
      ((h.1 c).1 1).trans (((dat m c).arrAt_in 1 rfl _).trans (Gen.V_main_arg1 m c)),
      ((h.1 c).2 main_arg2 (Pipeline.mem_restRefs_of main_arg2 (by decide) (by decide))).trans (Gen.V_main_arg2 m c),
      ((h.1 c).1 3).trans (((dat m c).arrAt_in 3 rfl _).trans (Gen.V_main_arg3 m c)),
      ((h.1 c).1 4).trans (((dat m c).arrAt_in 4 rfl _).trans (Gen.V_main_arg4 m c))⟩) (run m ρ)

end kernel

/-- Equal arguments, equal results. -/
theorem dgamma_congr {a a' b b' : FVec Ideal Cert.ReferenceIdeal.S12x4096x3584 .bf16} {r r' : FVec Ideal Cert.ReferenceIdeal.S12x4096 .f32}
    (h0 : a = a') (h1 : b = b') (h2 : r = r') : Cert.ReferenceIdeal.Hand.dgamma a b r = Cert.ReferenceIdeal.Hand.dgamma a' b' r' := by
  rw [h0, h1, h2]
theorem total_congr {a a' b b' e e' : FVec Ideal Cert.ReferenceIdeal.S12x4096x3584 .bf16} {g g' : FVec Ideal Cert.ReferenceIdeal.S3584 .f32}
    {r r' : FVec Ideal Cert.ReferenceIdeal.S12x4096 .f32} (h0 : a = a') (h1 : b = b') (h2 : g = g') (h3 : r = r') (h4 : e = e') :
    Cert.ReferenceIdeal.Hand.total a b g r e = Cert.ReferenceIdeal.Hand.total a' b' g' r' e' := by
  rw [h0, h1, h2, h3, h4]

/-- The idealized kernel computes the reference's results. -/
theorem algebraic : Cert.algebraic_KernelIdeal_ReferenceIdeal_pre_in_range (hKernelIdeal := Cert.KernelIdeal.Gen.facts)
    (hReferenceIdeal := Cert.ReferenceIdeal.Gen.facts) (hPre_in_range := Cert.KernelIdeal.Hand.preFacts) := by
  intro m g m' g' hp ha
  have G := fun c => Cert.KernelIdeal.Hand.good m c hp
  have ed := fun c => dgamma_congr (ha c).1 (ha c).2.1 (ha c).2.2.2.1
  have et : ∀ c, Cert.ReferenceIdeal.Hand.totalOf m' c = Cert.KernelIdeal.Hand.tot m c := fun c =>
    total_congr (ha c).1 (ha c).2.1 (ha c).2.2.1 (ha c).2.2.2.1 (ha c).2.2.2.2
  refine ⟨fun c => Cert.ReferenceIdeal.Hand.dgamma (Cert.KernelIdeal.Hand.argX m c) (Cert.KernelIdeal.Hand.argDy m c) (Cert.KernelIdeal.Hand.argR m c),
    fun c => Cert.KernelIdeal.Hand.tot m c, fun c => Cert.ReferenceIdeal.Hand.clipped (Cert.KernelIdeal.Hand.tot m c),
    fun c => Cert.ReferenceIdeal.Hand.pow2 (Cert.ReferenceIdeal.Hand.exponent (Cert.ReferenceIdeal.Hand.level (Cert.KernelIdeal.Hand.tot m c))),
    kernel_run m g G, ?_⟩
  refine (θ_run _ _ _).mono (fun r h c => ?_) (reference_run m' g')
  obtain ⟨h0, h1, h2, h3, hk⟩ := h c
  exact ⟨h0.trans (ed c), h1.trans (et c), h2.trans (congrArg Cert.ReferenceIdeal.Hand.clipped (et c)),
    h3.trans (congrArg (fun v => Cert.ReferenceIdeal.Hand.pow2 (Cert.ReferenceIdeal.Hand.exponent (Cert.ReferenceIdeal.Hand.level v))) (et c)), hk⟩

end Cert.Algebraic
-- ==== Proof.lean ====
module

public import proofs.«01_k».proof.Defs
public import proofs.«01_k».proof.Proof.Gen.ReferenceIdeal.Value
public import proofs.«01_k».proof.Proof.Frames
public import proofs.«01_k».proof.Proof.Algebraic

@[expose] public section

namespace Cert.Proof

/-- Everything the certificate claims, behind the witnesses of the side conditions the programs and the precondition state. -/
theorem claim : Cert.Claim := ⟨Cert.Kernel.Gen.facts, Cert.KernelIdeal.Gen.facts, Cert.ReferenceIdeal.Gen.facts, Cert.KernelIdeal.Hand.preFacts,
  Cert.Frames.frame_p, Cert.Frames.frame_pi, fun m g _ => Cert.Frames.frame_pi m g trivial,
  Cert.Frames.frame_ri, fun m g _ => Cert.Frames.frame_ri m g trivial, Cert.Frames.preserves, Cert.Algebraic.algebraic⟩

end Cert.Proof
